-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 8192, 8, 64]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 8192, 8, 64]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 8192, 8, 64]⟩ 1 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨4, ![2, 256, 8, 64]⟩ ⟨4, ![2, 8192, 8, 64]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  main_v8
-- ==== Pre_finite_scores_ReferenceIdeal.lean ====
abbrev S2x8192x8x64 : Shape := ⟨4, ![2, 8192, 8, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel

variable [Facts]

def fn {F : FTy → Type} [FloatOps F] (main_arg0 : FVec F S2x8192x8x64 .f32) (main_arg1 : FVec F S2x8192x8x64 .f32) (main_arg2 : FVec F S2x8192x8x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  main_v8
-- ==== Kernel.lean ====
abbrev S2x256x8x64 : Shape := ⟨4, ![2, 256, 8, 64]⟩
abbrev S2x8x256x64 : Shape := ⟨4, ![2, 8, 256, 64]⟩
abbrev S2x2x8x256x64 : Shape := ⟨5, ![2, 2, 8, 256, 64]⟩
abbrev S2x8x256x128 : Shape := ⟨4, ![2, 8, 256, 128]⟩
abbrev S2x2x2 : Shape := ⟨3, ![2, 2, 2]⟩
abbrev S_ : Shape := ⟨0, ![]⟩
abbrev S1x2x8x256x64 : Shape := ⟨5, ![1, 2, 8, 256, 64]⟩
abbrev S256x64 : Shape := ⟨2, ![256, 64]⟩
abbrev S1x1x1 : Shape := ⟨3, ![1, 1, 1]⟩
abbrev S1x1x256x64 : Shape := ⟨4, ![1, 1, 256, 64]⟩
abbrev S1x1x1x256x64 : Shape := ⟨5, ![1, 1, 1, 256, 64]⟩
abbrev S256x256 : Shape := ⟨2, ![256, 256]⟩
abbrev S256x128 : Shape := ⟨2, ![256, 128]⟩
abbrev S1x1x256x128 : Shape := ⟨4, ![1, 1, 256, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x256x64, .f32⟩
  | .hbm, ⟨4, _⟩ => ⟨S2x8x256x64, .f32⟩
  | .hbm, ⟨5, _⟩ => ⟨S2x8x256x64, .bf16⟩
  | .hbm, ⟨6, _⟩ => ⟨S2x8x256x64, .f32⟩
  | .hbm, ⟨7, _⟩ => ⟨S2x8x256x64, .bf16⟩
  | .hbm, ⟨8, _⟩ => ⟨S2x8x256x64, .f32⟩
  | .hbm, ⟨9, _⟩ => ⟨S2x256x8x64, .f32⟩
  | .local _ .vmem, ⟨0, _⟩ => ⟨S2x8x256x64, .f32⟩
  | .local _ .vmem, ⟨1, _⟩ => ⟨S2x8x256x64, .bf16⟩
  | .local _ .vmem, ⟨2, _⟩ => ⟨S2x8x256x64, .bf16⟩
  | .local _ .vmem, ⟨3, _⟩ => ⟨S2x8x256x64, .f32⟩
  | .local _ .vmem, ⟨4, _⟩ => ⟨S2x8x256x64, .bf16⟩
  | .local _ .vmem, ⟨5, _⟩ => ⟨S2x2x8x256x64, .bf16⟩
  | .local _ .vmem, ⟨6, _⟩ => ⟨S2x2x8x256x64, .bf16⟩
  | .local _ .vmem, ⟨7, _⟩ => ⟨S2x2x8x256x64, .bf16⟩
  | .local _ .vmem, ⟨8, _⟩ => ⟨S2x2x8x256x64, .bf16⟩
  | .local _ .vmem, ⟨9, _⟩ => ⟨S2x8x256x128, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_74 : BitVec 32 := 0#32
  let v138 : BitVec 1 := Scalar.cmpi .eq v53 c0_i32_74
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c0_i32_75 : BitVec 32 := 0#32
  let v139 : BitVec 1 := Scalar.cmpi .eq v68 c0_i32_75
  let c0_i32_77 : BitVec 32 := 0#32
  let c1_i32_76 : BitVec 32 := 1#32
  let v140 : BitVec 32 := Scalar.subi v68 c1_i32_76
  let v141 : BitVec 32 := Scalar.select v139 c0_i32_77 v140
  let c15_i32_78 : BitVec 32 := 15#32
  let v142 : BitVec 1 := Scalar.cmpi .eq v68 c15_i32_78
  let c15_i32_80 : BitVec 32 := 15#32
  let c1_i32_79 : BitVec 32 := 1#32
  let v143 : BitVec 32 := Scalar.addi v68 c1_i32_79
  let v144 : BitVec 32 := Scalar.select v142 c15_i32_80 v143
  let v145 : BitVec 32 := Scalar.select v138 v141 v144
  let c0_i32_82 : BitVec 32 := 0#32
  let v147 : BitVec 1 := Scalar.cmpi .sgt v145 c0_i32_82
  let v148 : BitVec 32 := Scalar.extui v147
  let c0_i32_83 : BitVec 32 := 0#32
  let v149 : BitVec 1 := Scalar.cmpi .slt v145 c0_i32_83
  let v150 : BitVec 32 := Scalar.extui v149
  let v151 : BitVec 32 := Scalar.subi v148 v150
  let c4_i32_81 : BitVec 32 := 4#32
  let c0_i32_84 : BitVec 32 := 0#32
  let v152 : BitVec 1 := Scalar.cmpi .sgt c4_i32_81 c0_i32_84
  let v153 : BitVec 32 := Scalar.extui v152
  let c0_i32_85 : BitVec 32 := 0#32
  let v154 : BitVec 1 := Scalar.cmpi .slt c4_i32_81 c0_i32_85
  let v155 : BitVec 32 := Scalar.extui v154
  let v156 : BitVec 32 := Scalar.subi v153 v155
  let v157 : BitVec 1 := Scalar.cmpi .ne v151 v156
  let v158 : BitVec 32 := Scalar.remsi v145 c4_i32_81
  let c0_i32_86 : BitVec 32 := 0#32
  let v159 : BitVec 1 := Scalar.cmpi .ne v158 c0_i32_86
  let v160 : BitVec 1 := Scalar.andi v157 v159
  let v146 : BitVec 32 := Scalar.divsi v145 c4_i32_81
  let c1_i32_87 : BitVec 32 := 1#32
  let v161 : BitVec 32 := Scalar.subi v146 c1_i32_87
  let v162 : BitVec 32 := Scalar.select v160 v161 v146
  let c8_i32_97 : BitVec 32 := 8#32
  let v178 : BitVec 32 := Scalar.muli v162 c8_i32_97
  let c2_i32_89 : BitVec 32 := 2#32
  let c0_i32_90 : BitVec 32 := 0#32
  let v165 : BitVec 1 := Scalar.cmpi .eq c2_i32_89 c0_i32_90
  let c1_i32_91 : BitVec 32 := 1#32
  let v166 : BitVec 32 := Scalar.select v165 c1_i32_91 c2_i32_89
  let v167 : BitVec 32 := Scalar.remsi v162 v166
  let c0_i32_93 : BitVec 32 := 0#32
  let v169 : BitVec 1 := Scalar.cmpi .slt v167 c0_i32_93
  let c0_i32_94 : BitVec 32 := 0#32
  let v170 : BitVec 1 := Scalar.cmpi .slt v166 c0_i32_94
  let v171 : BitVec 1 := Scalar.xori v169 v170
  let c0_i32_92 : BitVec 32 := 0#32
  let v168 : BitVec 1 := Scalar.cmpi .ne v167 c0_i32_92
  let v172 : BitVec 1 := Scalar.andi v171 v168
  let v173 : BitVec 32 := Scalar.addi v167 v166
  let v174 : BitVec 32 := Scalar.select v172 v173 v167
  let c0_i32_95 : BitVec 32 := 0#32
  let v175 : BitVec 1 := Scalar.cmpi .eq v174 c0_i32_95
  let c4_i32_88 : BitVec 32 := 4#32
  let v163 : BitVec 32 := Scalar.muli c4_i32_88 v162
  let v164 : BitVec 32 := Scalar.subi v145 v163
  let c3_i32_96 : BitVec 32 := 3#32
  let v176 : BitVec 32 := Scalar.subi c3_i32_96 v164
  let v177 : BitVec 32 := Scalar.select v175 v164 v176
  let c2_i32_98 : BitVec 32 := 2#32
  let v179 : BitVec 32 := Scalar.muli v177 c2_i32_98
  let v180 : BitVec 32 := Scalar.addi v178 v179
  let c2_i32_99 : BitVec 32 := 2#32
  let c0_i32_100 : BitVec 32 := 0#32
  let v181 : BitVec 1 := Scalar.cmpi .eq c2_i32_99 c0_i32_100
  let c1_i32_101 : BitVec 32 := 1#32
  let v182 : BitVec 32 := Scalar.select v181 c1_i32_101 c2_i32_99
  let v183 : BitVec 32 := Scalar.remsi v177 v182
  let c0_i32_103 : BitVec 32 := 0#32
  let v185 : BitVec 1 := Scalar.cmpi .slt v183 c0_i32_103
  let c0_i32_104 : BitVec 32 := 0#32
  let v186 : BitVec 1 := Scalar.cmpi .slt v182 c0_i32_104
  let v187 : BitVec 1 := Scalar.xori v185 v186
  let c0_i32_102 : BitVec 32 := 0#32
  let v184 : BitVec 1 := Scalar.cmpi .ne v183 c0_i32_102
  let v188 : BitVec 1 := Scalar.andi v187 v184
  let v189 : BitVec 32 := Scalar.addi v183 v182
  let v190 : BitVec 32 := Scalar.select v188 v189 v183
  let c0_i32_105 : BitVec 32 := 0#32
  let v191 : BitVec 1 := Scalar.cmpi .eq v190 c0_i32_105
  let c0_i32_67 : BitVec 32 := 0#32
  let v132 : BitVec 1 := Scalar.cmpi .eq v53 c0_i32_67
  let c0_i32_68 : BitVec 32 := 0#32
  let v133 : BitVec 1 := Scalar.cmpi .eq v68 c0_i32_68
  let c1_i32_69 : BitVec 32 := 1#32
  let c0_i32_70 : BitVec 32 := 0#32
  let v134 : BitVec 32 := Scalar.select v133 c1_i32_69 c0_i32_70
  let c15_i32_71 : BitVec 32 := 15#32
  let v135 : BitVec 1 := Scalar.cmpi .eq v68 c15_i32_71
  let c0_i32_72 : BitVec 32 := 0#32
  let c1_i32_73 : BitVec 32 := 1#32
  let v136 : BitVec 32 := Scalar.select v135 c0_i32_72 c1_i32_73
  let v137 : BitVec 32 := Scalar.select v132 v134 v136
  let c1_i32_106 : BitVec 32 := 1#32
  let v192 : BitVec 32 := Scalar.subi c1_i32_106 v137
  let v193 : BitVec 32 := Scalar.select v191 v137 v192
  let v194 : BitVec 32 := Scalar.addi v180 v193
  let c1_i32_108 : BitVec 32 := 1#32
  let v196 : BitVec 32 := Scalar.muli v194 c1_i32_108
  let v197 : BitVec 32 := Scalar.addi c0_i32_109 v196
  v197.toNat
def k0_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_34 : BitVec 32 := 0#32
  let v75 : BitVec 1 := Scalar.cmpi .eq v53 c0_i32_34
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c15_i32_35 : BitVec 32 := 15#32
  let v76 : BitVec 1 := Scalar.cmpi .eq v68 c15_i32_35
  let c15_i32_37 : BitVec 32 := 15#32
  let c1_i32_36 : BitVec 32 := 1#32
  let v77 : BitVec 32 := Scalar.addi v68 c1_i32_36
  let v78 : BitVec 32 := Scalar.select v76 c15_i32_37 v77
  let c0_i32_38 : BitVec 32 := 0#32
  let v79 : BitVec 1 := Scalar.cmpi .eq v68 c0_i32_38
  let c0_i32_40 : BitVec 32 := 0#32
  let c1_i32_39 : BitVec 32 := 1#32
  let v80 : BitVec 32 := Scalar.subi v68 c1_i32_39
  let v81 : BitVec 32 := Scalar.select v79 c0_i32_40 v80
  let v82 : BitVec 32 := Scalar.select v75 v78 v81
  let c0_i32_42 : BitVec 32 := 0#32
  let v84 : BitVec 1 := Scalar.cmpi .sgt v82 c0_i32_42
  let v85 : BitVec 32 := Scalar.extui v84
  let c0_i32_43 : BitVec 32 := 0#32
  let v86 : BitVec 1 := Scalar.cmpi .slt v82 c0_i32_43
  let v87 : BitVec 32 := Scalar.extui v86
  let v88 : BitVec 32 := Scalar.subi v85 v87
  let c4_i32_41 : BitVec 32 := 4#32
  let c0_i32_44 : BitVec 32 := 0#32
  let v89 : BitVec 1 := Scalar.cmpi .sgt c4_i32_41 c0_i32_44
  let v90 : BitVec 32 := Scalar.extui v89
  let c0_i32_45 : BitVec 32 := 0#32
  let v91 : BitVec 1 := Scalar.cmpi .slt c4_i32_41 c0_i32_45
  let v92 : BitVec 32 := Scalar.extui v91
  let v93 : BitVec 32 := Scalar.subi v90 v92
  let v94 : BitVec 1 := Scalar.cmpi .ne v88 v93
  let v95 : BitVec 32 := Scalar.remsi v82 c4_i32_41
  let c0_i32_46 : BitVec 32 := 0#32
  let v96 : BitVec 1 := Scalar.cmpi .ne v95 c0_i32_46
  let v97 : BitVec 1 := Scalar.andi v94 v96
  let v83 : BitVec 32 := Scalar.divsi v82 c4_i32_41
  let c1_i32_47 : BitVec 32 := 1#32
  let v98 : BitVec 32 := Scalar.subi v83 c1_i32_47
  let v99 : BitVec 32 := Scalar.select v97 v98 v83
  let c8_i32_57 : BitVec 32 := 8#32
  let v115 : BitVec 32 := Scalar.muli v99 c8_i32_57
  let c2_i32_49 : BitVec 32 := 2#32
  let c0_i32_50 : BitVec 32 := 0#32
  let v102 : BitVec 1 := Scalar.cmpi .eq c2_i32_49 c0_i32_50
  let c1_i32_51 : BitVec 32 := 1#32
  let v103 : BitVec 32 := Scalar.select v102 c1_i32_51 c2_i32_49
  let v104 : BitVec 32 := Scalar.remsi v99 v103
  let c0_i32_53 : BitVec 32 := 0#32
  let v106 : BitVec 1 := Scalar.cmpi .slt v104 c0_i32_53
  let c0_i32_54 : BitVec 32 := 0#32
  let v107 : BitVec 1 := Scalar.cmpi .slt v103 c0_i32_54
  let v108 : BitVec 1 := Scalar.xori v106 v107
  let c0_i32_52 : BitVec 32 := 0#32
  let v105 : BitVec 1 := Scalar.cmpi .ne v104 c0_i32_52
  let v109 : BitVec 1 := Scalar.andi v108 v105
  let v110 : BitVec 32 := Scalar.addi v104 v103
  let v111 : BitVec 32 := Scalar.select v109 v110 v104
  let c0_i32_55 : BitVec 32 := 0#32
  let v112 : BitVec 1 := Scalar.cmpi .eq v111 c0_i32_55
  let c4_i32_48 : BitVec 32 := 4#32
  let v100 : BitVec 32 := Scalar.muli c4_i32_48 v99
  let v101 : BitVec 32 := Scalar.subi v82 v100
  let c3_i32_56 : BitVec 32 := 3#32
  let v113 : BitVec 32 := Scalar.subi c3_i32_56 v101
  let v114 : BitVec 32 := Scalar.select v112 v101 v113
  let c2_i32_58 : BitVec 32 := 2#32
  let v116 : BitVec 32 := Scalar.muli v114 c2_i32_58
  let v117 : BitVec 32 := Scalar.addi v115 v116
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v114 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c0_i32_65 : BitVec 32 := 0#32
  let v128 : BitVec 1 := Scalar.cmpi .eq v127 c0_i32_65
  let c0_i32_28 : BitVec 32 := 0#32
  let v69 : BitVec 1 := Scalar.cmpi .eq v53 c0_i32_28
  let c15_i32 : BitVec 32 := 15#32
  let v70 : BitVec 1 := Scalar.cmpi .eq v68 c15_i32
  let c1_i32_29 : BitVec 32 := 1#32
  let c0_i32_30 : BitVec 32 := 0#32
  let v71 : BitVec 32 := Scalar.select v70 c1_i32_29 c0_i32_30
  let c0_i32_31 : BitVec 32 := 0#32
  let v72 : BitVec 1 := Scalar.cmpi .eq v68 c0_i32_31
  let c0_i32_32 : BitVec 32 := 0#32
  let c1_i32_33 : BitVec 32 := 1#32
  let v73 : BitVec 32 := Scalar.select v72 c0_i32_32 c1_i32_33
  let v74 : BitVec 32 := Scalar.select v69 v71 v73
  let c1_i32_66 : BitVec 32 := 1#32
  let v129 : BitVec 32 := Scalar.subi c1_i32_66 v74
  let v130 : BitVec 32 := Scalar.select v128 v74 v129
  let v131 : BitVec 32 := Scalar.addi v117 v130
  let c1_i32_111 : BitVec 32 := 1#32
  let v198 : BitVec 32 := Scalar.muli v131 c1_i32_111
  let v199 : BitVec 32 := Scalar.addi c0_i32_112 v198
  v199.toNat
@[reducible] def k0_t1_loop : Scf.Loop 32 :=
  let c0_i32_163 : BitVec 32 := 0#32
  let c16_i32 : BitVec 32 := 16#32
  let v233 : BitVec 32 := Scalar.addi c0_i32_163 c16_i32
  let c1_i32_164 : BitVec 32 := 1#32
  ⟨c0_i32_163, v233, c1_i32_164⟩
def k0_off1 (k0_t1 : Fin k0_t1_loop.trips) : Fin 3 → Nat :=
  let c0_i32_680 : BitVec 32 := 0#32
  let c0_i32_681 : BitVec 32 := 0#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![0, 0, v634.toNat]
def k0_off2 (k0_t1 : Fin k0_t1_loop.trips) : Fin 3 → Nat :=
  let c0_i32_678 : BitVec 32 := 0#32
  let c0_i32_679 : BitVec 32 := 0#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![0, 0, v636.toNat]
def k0_off3 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  let c0_i32_684 : BitVec 32 := 0#32
  let c0_i32_685 : BitVec 32 := 0#32
  let c0_i32_686 : BitVec 32 := 0#32
  let c0_i32_687 : BitVec 32 := 0#32
  ![v636.toNat, 0, 0, 0, 0]
def k0_off4 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let c0_i32_688 : BitVec 32 := 0#32
  let c0_i32_689 : BitVec 32 := 0#32
  let c0_i32_690 : BitVec 32 := 0#32
  let c0_i32_691 : BitVec 32 := 0#32
  ![v634.toNat, 0, 0, 0, 0]
def k0_dev3 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_34 : BitVec 32 := 0#32
  let v75 : BitVec 1 := Scalar.cmpi .eq v53 c0_i32_34
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c15_i32_35 : BitVec 32 := 15#32
  let v76 : BitVec 1 := Scalar.cmpi .eq v68 c15_i32_35
  let c15_i32_37 : BitVec 32 := 15#32
  let c1_i32_36 : BitVec 32 := 1#32
  let v77 : BitVec 32 := Scalar.addi v68 c1_i32_36
  let v78 : BitVec 32 := Scalar.select v76 c15_i32_37 v77
  let c0_i32_38 : BitVec 32 := 0#32
  let v79 : BitVec 1 := Scalar.cmpi .eq v68 c0_i32_38
  let c0_i32_40 : BitVec 32 := 0#32
  let c1_i32_39 : BitVec 32 := 1#32
  let v80 : BitVec 32 := Scalar.subi v68 c1_i32_39
  let v81 : BitVec 32 := Scalar.select v79 c0_i32_40 v80
  let v82 : BitVec 32 := Scalar.select v75 v78 v81
  let c0_i32_42 : BitVec 32 := 0#32
  let v84 : BitVec 1 := Scalar.cmpi .sgt v82 c0_i32_42
  let v85 : BitVec 32 := Scalar.extui v84
  let c0_i32_43 : BitVec 32 := 0#32
  let v86 : BitVec 1 := Scalar.cmpi .slt v82 c0_i32_43
  let v87 : BitVec 32 := Scalar.extui v86
  let v88 : BitVec 32 := Scalar.subi v85 v87
  let c4_i32_41 : BitVec 32 := 4#32
  let c0_i32_44 : BitVec 32 := 0#32
  let v89 : BitVec 1 := Scalar.cmpi .sgt c4_i32_41 c0_i32_44
  let v90 : BitVec 32 := Scalar.extui v89
  let c0_i32_45 : BitVec 32 := 0#32
  let v91 : BitVec 1 := Scalar.cmpi .slt c4_i32_41 c0_i32_45
  let v92 : BitVec 32 := Scalar.extui v91
  let v93 : BitVec 32 := Scalar.subi v90 v92
  let v94 : BitVec 1 := Scalar.cmpi .ne v88 v93
  let v95 : BitVec 32 := Scalar.remsi v82 c4_i32_41
  let c0_i32_46 : BitVec 32 := 0#32
  let v96 : BitVec 1 := Scalar.cmpi .ne v95 c0_i32_46
  let v97 : BitVec 1 := Scalar.andi v94 v96
  let v83 : BitVec 32 := Scalar.divsi v82 c4_i32_41
  let c1_i32_47 : BitVec 32 := 1#32
  let v98 : BitVec 32 := Scalar.subi v83 c1_i32_47
  let v99 : BitVec 32 := Scalar.select v97 v98 v83
  let c8_i32_57 : BitVec 32 := 8#32
  let v115 : BitVec 32 := Scalar.muli v99 c8_i32_57
  let c2_i32_49 : BitVec 32 := 2#32
  let c0_i32_50 : BitVec 32 := 0#32
  let v102 : BitVec 1 := Scalar.cmpi .eq c2_i32_49 c0_i32_50
  let c1_i32_51 : BitVec 32 := 1#32
  let v103 : BitVec 32 := Scalar.select v102 c1_i32_51 c2_i32_49
  let v104 : BitVec 32 := Scalar.remsi v99 v103
  let c0_i32_53 : BitVec 32 := 0#32
  let v106 : BitVec 1 := Scalar.cmpi .slt v104 c0_i32_53
  let c0_i32_54 : BitVec 32 := 0#32
  let v107 : BitVec 1 := Scalar.cmpi .slt v103 c0_i32_54
  let v108 : BitVec 1 := Scalar.xori v106 v107
  let c0_i32_52 : BitVec 32 := 0#32
  let v105 : BitVec 1 := Scalar.cmpi .ne v104 c0_i32_52
  let v109 : BitVec 1 := Scalar.andi v108 v105
  let v110 : BitVec 32 := Scalar.addi v104 v103
  let v111 : BitVec 32 := Scalar.select v109 v110 v104
  let c0_i32_55 : BitVec 32 := 0#32
  let v112 : BitVec 1 := Scalar.cmpi .eq v111 c0_i32_55
  let c4_i32_48 : BitVec 32 := 4#32
  let v100 : BitVec 32 := Scalar.muli c4_i32_48 v99
  let v101 : BitVec 32 := Scalar.subi v82 v100
  let c3_i32_56 : BitVec 32 := 3#32
  let v113 : BitVec 32 := Scalar.subi c3_i32_56 v101
  let v114 : BitVec 32 := Scalar.select v112 v101 v113
  let c2_i32_58 : BitVec 32 := 2#32
  let v116 : BitVec 32 := Scalar.muli v114 c2_i32_58
  let v117 : BitVec 32 := Scalar.addi v115 v116
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v114 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c0_i32_65 : BitVec 32 := 0#32
  let v128 : BitVec 1 := Scalar.cmpi .eq v127 c0_i32_65
  let c0_i32_28 : BitVec 32 := 0#32
  let v69 : BitVec 1 := Scalar.cmpi .eq v53 c0_i32_28
  let c15_i32 : BitVec 32 := 15#32
  let v70 : BitVec 1 := Scalar.cmpi .eq v68 c15_i32
  let c1_i32_29 : BitVec 32 := 1#32
  let c0_i32_30 : BitVec 32 := 0#32
  let v71 : BitVec 32 := Scalar.select v70 c1_i32_29 c0_i32_30
  let c0_i32_31 : BitVec 32 := 0#32
  let v72 : BitVec 1 := Scalar.cmpi .eq v68 c0_i32_31
  let c0_i32_32 : BitVec 32 := 0#32
  let c1_i32_33 : BitVec 32 := 1#32
  let v73 : BitVec 32 := Scalar.select v72 c0_i32_32 c1_i32_33
  let v74 : BitVec 32 := Scalar.select v69 v71 v73
  let c1_i32_66 : BitVec 32 := 1#32
  let v129 : BitVec 32 := Scalar.subi c1_i32_66 v74
  let v130 : BitVec 32 := Scalar.select v128 v74 v129
  let v131 : BitVec 32 := Scalar.addi v117 v130
  let c1_i32_682 : BitVec 32 := 1#32
  let v645 : BitVec 32 := Scalar.muli v131 c1_i32_682
  let v646 : BitVec 32 := Scalar.addi c0_i32_683 v645
  v646.toNat
def k0_off5 (k0_t1 : Fin k0_t1_loop.trips) : Fin 3 → Nat :=
  let c0_i32_694 : BitVec 32 := 0#32
  let c1_i32_695 : BitVec 32 := 1#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![0, 1, v634.toNat]
def k0_off6 (k0_t1 : Fin k0_t1_loop.trips) : Fin 3 → Nat :=
  let c0_i32_692 : BitVec 32 := 0#32
  let c1_i32_693 : BitVec 32 := 1#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![0, 1, v636.toNat]
def k0_dev4 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_34 : BitVec 32 := 0#32
  let v75 : BitVec 1 := Scalar.cmpi .eq v53 c0_i32_34
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c15_i32_35 : BitVec 32 := 15#32
  let v76 : BitVec 1 := Scalar.cmpi .eq v68 c15_i32_35
  let c15_i32_37 : BitVec 32 := 15#32
  let c1_i32_36 : BitVec 32 := 1#32
  let v77 : BitVec 32 := Scalar.addi v68 c1_i32_36
  let v78 : BitVec 32 := Scalar.select v76 c15_i32_37 v77
  let c0_i32_38 : BitVec 32 := 0#32
  let v79 : BitVec 1 := Scalar.cmpi .eq v68 c0_i32_38
  let c0_i32_40 : BitVec 32 := 0#32
  let c1_i32_39 : BitVec 32 := 1#32
  let v80 : BitVec 32 := Scalar.subi v68 c1_i32_39
  let v81 : BitVec 32 := Scalar.select v79 c0_i32_40 v80
  let v82 : BitVec 32 := Scalar.select v75 v78 v81
  let c0_i32_42 : BitVec 32 := 0#32
  let v84 : BitVec 1 := Scalar.cmpi .sgt v82 c0_i32_42
  let v85 : BitVec 32 := Scalar.extui v84
  let c0_i32_43 : BitVec 32 := 0#32
  let v86 : BitVec 1 := Scalar.cmpi .slt v82 c0_i32_43
  let v87 : BitVec 32 := Scalar.extui v86
  let v88 : BitVec 32 := Scalar.subi v85 v87
  let c4_i32_41 : BitVec 32 := 4#32
  let c0_i32_44 : BitVec 32 := 0#32
  let v89 : BitVec 1 := Scalar.cmpi .sgt c4_i32_41 c0_i32_44
  let v90 : BitVec 32 := Scalar.extui v89
  let c0_i32_45 : BitVec 32 := 0#32
  let v91 : BitVec 1 := Scalar.cmpi .slt c4_i32_41 c0_i32_45
  let v92 : BitVec 32 := Scalar.extui v91
  let v93 : BitVec 32 := Scalar.subi v90 v92
  let v94 : BitVec 1 := Scalar.cmpi .ne v88 v93
  let v95 : BitVec 32 := Scalar.remsi v82 c4_i32_41
  let c0_i32_46 : BitVec 32 := 0#32
  let v96 : BitVec 1 := Scalar.cmpi .ne v95 c0_i32_46
  let v97 : BitVec 1 := Scalar.andi v94 v96
  let v83 : BitVec 32 := Scalar.divsi v82 c4_i32_41
  let c1_i32_47 : BitVec 32 := 1#32
  let v98 : BitVec 32 := Scalar.subi v83 c1_i32_47
  let v99 : BitVec 32 := Scalar.select v97 v98 v83
  let c8_i32_57 : BitVec 32 := 8#32
  let v115 : BitVec 32 := Scalar.muli v99 c8_i32_57
  let c2_i32_49 : BitVec 32 := 2#32
  let c0_i32_50 : BitVec 32 := 0#32
  let v102 : BitVec 1 := Scalar.cmpi .eq c2_i32_49 c0_i32_50
  let c1_i32_51 : BitVec 32 := 1#32
  let v103 : BitVec 32 := Scalar.select v102 c1_i32_51 c2_i32_49
  let v104 : BitVec 32 := Scalar.remsi v99 v103
  let c0_i32_53 : BitVec 32 := 0#32
  let v106 : BitVec 1 := Scalar.cmpi .slt v104 c0_i32_53
  let c0_i32_54 : BitVec 32 := 0#32
  let v107 : BitVec 1 := Scalar.cmpi .slt v103 c0_i32_54
  let v108 : BitVec 1 := Scalar.xori v106 v107
  let c0_i32_52 : BitVec 32 := 0#32
  let v105 : BitVec 1 := Scalar.cmpi .ne v104 c0_i32_52
  let v109 : BitVec 1 := Scalar.andi v108 v105
  let v110 : BitVec 32 := Scalar.addi v104 v103
  let v111 : BitVec 32 := Scalar.select v109 v110 v104
  let c0_i32_55 : BitVec 32 := 0#32
  let v112 : BitVec 1 := Scalar.cmpi .eq v111 c0_i32_55
  let c4_i32_48 : BitVec 32 := 4#32
  let v100 : BitVec 32 := Scalar.muli c4_i32_48 v99
  let v101 : BitVec 32 := Scalar.subi v82 v100
  let c3_i32_56 : BitVec 32 := 3#32
  let v113 : BitVec 32 := Scalar.subi c3_i32_56 v101
  let v114 : BitVec 32 := Scalar.select v112 v101 v113
  let c2_i32_58 : BitVec 32 := 2#32
  let v116 : BitVec 32 := Scalar.muli v114 c2_i32_58
  let v117 : BitVec 32 := Scalar.addi v115 v116
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v114 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c0_i32_65 : BitVec 32 := 0#32
  let v128 : BitVec 1 := Scalar.cmpi .eq v127 c0_i32_65
  let c0_i32_28 : BitVec 32 := 0#32
  let v69 : BitVec 1 := Scalar.cmpi .eq v53 c0_i32_28
  let c15_i32 : BitVec 32 := 15#32
  let v70 : BitVec 1 := Scalar.cmpi .eq v68 c15_i32
  let c1_i32_29 : BitVec 32 := 1#32
  let c0_i32_30 : BitVec 32 := 0#32
  let v71 : BitVec 32 := Scalar.select v70 c1_i32_29 c0_i32_30
  let c0_i32_31 : BitVec 32 := 0#32
  let v72 : BitVec 1 := Scalar.cmpi .eq v68 c0_i32_31
  let c0_i32_32 : BitVec 32 := 0#32
  let c1_i32_33 : BitVec 32 := 1#32
  let v73 : BitVec 32 := Scalar.select v72 c0_i32_32 c1_i32_33
  let v74 : BitVec 32 := Scalar.select v69 v71 v73
  let c1_i32_66 : BitVec 32 := 1#32
  let v129 : BitVec 32 := Scalar.subi c1_i32_66 v74
  let v130 : BitVec 32 := Scalar.select v128 v74 v129
  let v131 : BitVec 32 := Scalar.addi v117 v130
  let c1_i32_696 : BitVec 32 := 1#32
  let v655 : BitVec 32 := Scalar.muli v131 c1_i32_696
  let v656 : BitVec 32 := Scalar.addi c0_i32_697 v655
  v656.toNat
def k0_cond3 (k0_t1 : Fin k0_t1_loop.trips) : BitVec 1 :=
  let c0_i32_163 : BitVec 32 := 0#32
  let c1_i32_164 : BitVec 32 := 1#32
  let arg14 : BitVec 32 := Scf.iv c0_i32_163 c1_i32_164 k0_t1
  let c14_i32_706 : BitVec 32 := 14#32
  let v665 : BitVec 1 := Scalar.cmpi .sle arg14 c14_i32_706
  let v666 : BitVec 32 := Scalar.extui v665
  let c0_i32_715 : BitVec 32 := 0#32
  let v667 : BitVec 1 := Scalar.cmpi .ne v666 c0_i32_715
  v667

def k0_off7 (k0_t1 : Fin k0_t1_loop.trips) : Fin 3 → Nat :=
  let c1_i32_709 : BitVec 32 := 1#32
  let c0_i32_710 : BitVec 32 := 0#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![1, 0, v634.toNat]
def k0_off8 (k0_t1 : Fin k0_t1_loop.trips) : Fin 3 → Nat :=
  let c1_i32_707 : BitVec 32 := 1#32
  let c0_i32_708 : BitVec 32 := 0#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![1, 0, v636.toNat]
def k0_off9 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  let c0_i32_1139 : BitVec 32 := 0#32
  let c0_i32_1140 : BitVec 32 := 0#32
  let c0_i32_1141 : BitVec 32 := 0#32
  let c0_i32_1142 : BitVec 32 := 0#32
  ![v636.toNat, 0, 0, 0, 0]
def k0_off10 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let c0_i32_1143 : BitVec 32 := 0#32
  let c0_i32_1144 : BitVec 32 := 0#32
  let c0_i32_1145 : BitVec 32 := 0#32
  let c0_i32_1146 : BitVec 32 := 0#32
  ![v634.toNat, 0, 0, 0, 0]
def k0_dev5 (d0 : Dev nD) : Nat :=
  let c0_i32_1138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_74 : BitVec 32 := 0#32
  let v138 : BitVec 1 := Scalar.cmpi .eq v53 c0_i32_74
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c0_i32_75 : BitVec 32 := 0#32
  let v139 : BitVec 1 := Scalar.cmpi .eq v68 c0_i32_75
  let c0_i32_77 : BitVec 32 := 0#32
  let c1_i32_76 : BitVec 32 := 1#32
  let v140 : BitVec 32 := Scalar.subi v68 c1_i32_76
  let v141 : BitVec 32 := Scalar.select v139 c0_i32_77 v140
  let c15_i32_78 : BitVec 32 := 15#32
  let v142 : BitVec 1 := Scalar.cmpi .eq v68 c15_i32_78
  let c15_i32_80 : BitVec 32 := 15#32
  let c1_i32_79 : BitVec 32 := 1#32
  let v143 : BitVec 32 := Scalar.addi v68 c1_i32_79
  let v144 : BitVec 32 := Scalar.select v142 c15_i32_80 v143
  let v145 : BitVec 32 := Scalar.select v138 v141 v144
  let c0_i32_82 : BitVec 32 := 0#32
  let v147 : BitVec 1 := Scalar.cmpi .sgt v145 c0_i32_82
  let v148 : BitVec 32 := Scalar.extui v147
  let c0_i32_83 : BitVec 32 := 0#32
  let v149 : BitVec 1 := Scalar.cmpi .slt v145 c0_i32_83
  let v150 : BitVec 32 := Scalar.extui v149
  let v151 : BitVec 32 := Scalar.subi v148 v150
  let c4_i32_81 : BitVec 32 := 4#32
  let c0_i32_84 : BitVec 32 := 0#32
  let v152 : BitVec 1 := Scalar.cmpi .sgt c4_i32_81 c0_i32_84
  let v153 : BitVec 32 := Scalar.extui v152
  let c0_i32_85 : BitVec 32 := 0#32
  let v154 : BitVec 1 := Scalar.cmpi .slt c4_i32_81 c0_i32_85
  let v155 : BitVec 32 := Scalar.extui v154
  let v156 : BitVec 32 := Scalar.subi v153 v155
  let v157 : BitVec 1 := Scalar.cmpi .ne v151 v156
  let v158 : BitVec 32 := Scalar.remsi v145 c4_i32_81
  let c0_i32_86 : BitVec 32 := 0#32
  let v159 : BitVec 1 := Scalar.cmpi .ne v158 c0_i32_86
  let v160 : BitVec 1 := Scalar.andi v157 v159
  let v146 : BitVec 32 := Scalar.divsi v145 c4_i32_81
  let c1_i32_87 : BitVec 32 := 1#32
  let v161 : BitVec 32 := Scalar.subi v146 c1_i32_87
  let v162 : BitVec 32 := Scalar.select v160 v161 v146
  let c8_i32_97 : BitVec 32 := 8#32
  let v178 : BitVec 32 := Scalar.muli v162 c8_i32_97
  let c2_i32_89 : BitVec 32 := 2#32
  let c0_i32_90 : BitVec 32 := 0#32
  let v165 : BitVec 1 := Scalar.cmpi .eq c2_i32_89 c0_i32_90
  let c1_i32_91 : BitVec 32 := 1#32
  let v166 : BitVec 32 := Scalar.select v165 c1_i32_91 c2_i32_89
  let v167 : BitVec 32 := Scalar.remsi v162 v166
  let c0_i32_93 : BitVec 32 := 0#32
  let v169 : BitVec 1 := Scalar.cmpi .slt v167 c0_i32_93
  let c0_i32_94 : BitVec 32 := 0#32
  let v170 : BitVec 1 := Scalar.cmpi .slt v166 c0_i32_94
  let v171 : BitVec 1 := Scalar.xori v169 v170
  let c0_i32_92 : BitVec 32 := 0#32
  let v168 : BitVec 1 := Scalar.cmpi .ne v167 c0_i32_92
  let v172 : BitVec 1 := Scalar.andi v171 v168
  let v173 : BitVec 32 := Scalar.addi v167 v166
  let v174 : BitVec 32 := Scalar.select v172 v173 v167
  let c0_i32_95 : BitVec 32 := 0#32
  let v175 : BitVec 1 := Scalar.cmpi .eq v174 c0_i32_95
  let c4_i32_88 : BitVec 32 := 4#32
  let v163 : BitVec 32 := Scalar.muli c4_i32_88 v162
  let v164 : BitVec 32 := Scalar.subi v145 v163
  let c3_i32_96 : BitVec 32 := 3#32
  let v176 : BitVec 32 := Scalar.subi c3_i32_96 v164
  let v177 : BitVec 32 := Scalar.select v175 v164 v176
  let c2_i32_98 : BitVec 32 := 2#32
  let v179 : BitVec 32 := Scalar.muli v177 c2_i32_98
  let v180 : BitVec 32 := Scalar.addi v178 v179
  let c2_i32_99 : BitVec 32 := 2#32
  let c0_i32_100 : BitVec 32 := 0#32
  let v181 : BitVec 1 := Scalar.cmpi .eq c2_i32_99 c0_i32_100
  let c1_i32_101 : BitVec 32 := 1#32
  let v182 : BitVec 32 := Scalar.select v181 c1_i32_101 c2_i32_99
  let v183 : BitVec 32 := Scalar.remsi v177 v182
  let c0_i32_103 : BitVec 32 := 0#32
  let v185 : BitVec 1 := Scalar.cmpi .slt v183 c0_i32_103
  let c0_i32_104 : BitVec 32 := 0#32
  let v186 : BitVec 1 := Scalar.cmpi .slt v182 c0_i32_104
  let v187 : BitVec 1 := Scalar.xori v185 v186
  let c0_i32_102 : BitVec 32 := 0#32
  let v184 : BitVec 1 := Scalar.cmpi .ne v183 c0_i32_102
  let v188 : BitVec 1 := Scalar.andi v187 v184
  let v189 : BitVec 32 := Scalar.addi v183 v182
  let v190 : BitVec 32 := Scalar.select v188 v189 v183
  let c0_i32_105 : BitVec 32 := 0#32
  let v191 : BitVec 1 := Scalar.cmpi .eq v190 c0_i32_105
  let c0_i32_67 : BitVec 32 := 0#32
  let v132 : BitVec 1 := Scalar.cmpi .eq v53 c0_i32_67
  let c0_i32_68 : BitVec 32 := 0#32
  let v133 : BitVec 1 := Scalar.cmpi .eq v68 c0_i32_68
  let c1_i32_69 : BitVec 32 := 1#32
  let c0_i32_70 : BitVec 32 := 0#32
  let v134 : BitVec 32 := Scalar.select v133 c1_i32_69 c0_i32_70
  let c15_i32_71 : BitVec 32 := 15#32
  let v135 : BitVec 1 := Scalar.cmpi .eq v68 c15_i32_71
  let c0_i32_72 : BitVec 32 := 0#32
  let c1_i32_73 : BitVec 32 := 1#32
  let v136 : BitVec 32 := Scalar.select v135 c0_i32_72 c1_i32_73
  let v137 : BitVec 32 := Scalar.select v132 v134 v136
  let c1_i32_106 : BitVec 32 := 1#32
  let v192 : BitVec 32 := Scalar.subi c1_i32_106 v137
  let v193 : BitVec 32 := Scalar.select v191 v137 v192
  let v194 : BitVec 32 := Scalar.addi v180 v193
  let c1_i32_1137 : BitVec 32 := 1#32
  let v1012 : BitVec 32 := Scalar.muli v194 c1_i32_1137
  let v1013 : BitVec 32 := Scalar.addi c0_i32_1138 v1012
  v1013.toNat
def k0_off11 (k0_t1 : Fin k0_t1_loop.trips) : Fin 3 → Nat :=
  let c1_i32_713 : BitVec 32 := 1#32
  let c1_i32_714 : BitVec 32 := 1#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![1, 1, v634.toNat]
def k0_off12 (k0_t1 : Fin k0_t1_loop.trips) : Fin 3 → Nat :=
  let c1_i32_711 : BitVec 32 := 1#32
  let c1_i32_712 : BitVec 32 := 1#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![1, 1, v636.toNat]
def k0_dev6 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_74 : BitVec 32 := 0#32
  let v138 : BitVec 1 := Scalar.cmpi .eq v53 c0_i32_74
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c0_i32_75 : BitVec 32 := 0#32
  let v139 : BitVec 1 := Scalar.cmpi .eq v68 c0_i32_75
  let c0_i32_77 : BitVec 32 := 0#32
  let c1_i32_76 : BitVec 32 := 1#32
  let v140 : BitVec 32 := Scalar.subi v68 c1_i32_76
  let v141 : BitVec 32 := Scalar.select v139 c0_i32_77 v140
  let c15_i32_78 : BitVec 32 := 15#32
  let v142 : BitVec 1 := Scalar.cmpi .eq v68 c15_i32_78
  let c15_i32_80 : BitVec 32 := 15#32
  let c1_i32_79 : BitVec 32 := 1#32
  let v143 : BitVec 32 := Scalar.addi v68 c1_i32_79
  let v144 : BitVec 32 := Scalar.select v142 c15_i32_80 v143
  let v145 : BitVec 32 := Scalar.select v138 v141 v144
  let c0_i32_82 : BitVec 32 := 0#32
  let v147 : BitVec 1 := Scalar.cmpi .sgt v145 c0_i32_82
  let v148 : BitVec 32 := Scalar.extui v147
  let c0_i32_83 : BitVec 32 := 0#32
  let v149 : BitVec 1 := Scalar.cmpi .slt v145 c0_i32_83
  let v150 : BitVec 32 := Scalar.extui v149
  let v151 : BitVec 32 := Scalar.subi v148 v150
  let c4_i32_81 : BitVec 32 := 4#32
  let c0_i32_84 : BitVec 32 := 0#32
  let v152 : BitVec 1 := Scalar.cmpi .sgt c4_i32_81 c0_i32_84
  let v153 : BitVec 32 := Scalar.extui v152
  let c0_i32_85 : BitVec 32 := 0#32
  let v154 : BitVec 1 := Scalar.cmpi .slt c4_i32_81 c0_i32_85
  let v155 : BitVec 32 := Scalar.extui v154
  let v156 : BitVec 32 := Scalar.subi v153 v155
  let v157 : BitVec 1 := Scalar.cmpi .ne v151 v156
  let v158 : BitVec 32 := Scalar.remsi v145 c4_i32_81
  let c0_i32_86 : BitVec 32 := 0#32
  let v159 : BitVec 1 := Scalar.cmpi .ne v158 c0_i32_86
  let v160 : BitVec 1 := Scalar.andi v157 v159
  let v146 : BitVec 32 := Scalar.divsi v145 c4_i32_81
  let c1_i32_87 : BitVec 32 := 1#32
  let v161 : BitVec 32 := Scalar.subi v146 c1_i32_87
  let v162 : BitVec 32 := Scalar.select v160 v161 v146
  let c8_i32_97 : BitVec 32 := 8#32
  let v178 : BitVec 32 := Scalar.muli v162 c8_i32_97
  let c2_i32_89 : BitVec 32 := 2#32
  let c0_i32_90 : BitVec 32 := 0#32
  let v165 : BitVec 1 := Scalar.cmpi .eq c2_i32_89 c0_i32_90
  let c1_i32_91 : BitVec 32 := 1#32
  let v166 : BitVec 32 := Scalar.select v165 c1_i32_91 c2_i32_89
  let v167 : BitVec 32 := Scalar.remsi v162 v166
  let c0_i32_93 : BitVec 32 := 0#32
  let v169 : BitVec 1 := Scalar.cmpi .slt v167 c0_i32_93
  let c0_i32_94 : BitVec 32 := 0#32
  let v170 : BitVec 1 := Scalar.cmpi .slt v166 c0_i32_94
  let v171 : BitVec 1 := Scalar.xori v169 v170
  let c0_i32_92 : BitVec 32 := 0#32
  let v168 : BitVec 1 := Scalar.cmpi .ne v167 c0_i32_92
  let v172 : BitVec 1 := Scalar.andi v171 v168
  let v173 : BitVec 32 := Scalar.addi v167 v166
  let v174 : BitVec 32 := Scalar.select v172 v173 v167
  let c0_i32_95 : BitVec 32 := 0#32
  let v175 : BitVec 1 := Scalar.cmpi .eq v174 c0_i32_95
  let c4_i32_88 : BitVec 32 := 4#32
  let v163 : BitVec 32 := Scalar.muli c4_i32_88 v162
  let v164 : BitVec 32 := Scalar.subi v145 v163
  let c3_i32_96 : BitVec 32 := 3#32
  let v176 : BitVec 32 := Scalar.subi c3_i32_96 v164
  let v177 : BitVec 32 := Scalar.select v175 v164 v176
  let c2_i32_98 : BitVec 32 := 2#32
  let v179 : BitVec 32 := Scalar.muli v177 c2_i32_98
  let v180 : BitVec 32 := Scalar.addi v178 v179
  let c2_i32_99 : BitVec 32 := 2#32
  let c0_i32_100 : BitVec 32 := 0#32
  let v181 : BitVec 1 := Scalar.cmpi .eq c2_i32_99 c0_i32_100
  let c1_i32_101 : BitVec 32 := 1#32
  let v182 : BitVec 32 := Scalar.select v181 c1_i32_101 c2_i32_99
  let v183 : BitVec 32 := Scalar.remsi v177 v182
  let c0_i32_103 : BitVec 32 := 0#32
  let v185 : BitVec 1 := Scalar.cmpi .slt v183 c0_i32_103
  let c0_i32_104 : BitVec 32 := 0#32
  let v186 : BitVec 1 := Scalar.cmpi .slt v182 c0_i32_104
  let v187 : BitVec 1 := Scalar.xori v185 v186
  let c0_i32_102 : BitVec 32 := 0#32
  let v184 : BitVec 1 := Scalar.cmpi .ne v183 c0_i32_102
  let v188 : BitVec 1 := Scalar.andi v187 v184
  let v189 : BitVec 32 := Scalar.addi v183 v182
  let v190 : BitVec 32 := Scalar.select v188 v189 v183
  let c0_i32_105 : BitVec 32 := 0#32
  let v191 : BitVec 1 := Scalar.cmpi .eq v190 c0_i32_105
  let c0_i32_67 : BitVec 32 := 0#32
  let v132 : BitVec 1 := Scalar.cmpi .eq v53 c0_i32_67
  let c0_i32_68 : BitVec 32 := 0#32
  let v133 : BitVec 1 := Scalar.cmpi .eq v68 c0_i32_68
  let c1_i32_69 : BitVec 32 := 1#32
  let c0_i32_70 : BitVec 32 := 0#32
  let v134 : BitVec 32 := Scalar.select v133 c1_i32_69 c0_i32_70
  let c15_i32_71 : BitVec 32 := 15#32
  let v135 : BitVec 1 := Scalar.cmpi .eq v68 c15_i32_71
  let c0_i32_72 : BitVec 32 := 0#32
  let c1_i32_73 : BitVec 32 := 1#32
  let v136 : BitVec 32 := Scalar.select v135 c0_i32_72 c1_i32_73
  let v137 : BitVec 32 := Scalar.select v132 v134 v136
  let c1_i32_106 : BitVec 32 := 1#32
  let v192 : BitVec 32 := Scalar.subi c1_i32_106 v137
  let v193 : BitVec 32 := Scalar.select v191 v137 v192
  let v194 : BitVec 32 := Scalar.addi v180 v193
  let c1_i32_1147 : BitVec 32 := 1#32
  let v1022 : BitVec 32 := Scalar.muli v194 c1_i32_1147
  let v1023 : BitVec 32 := Scalar.addi c0_i32_1148 v1022
  v1023.toNat
def k0_off13 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v670 : Index := Scalar.indexCast v634
  let c0_720 : Index := 0#32
  let c0_721 : Index := 0#32
  let c0_722 : Index := 0#32
  let c0_723 : Index := 0#32
  ![v670.toNat, 0, 0, 0, 0]
def k0_off14 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v689 : Index := Scalar.indexCast v634
  let c0_742 : Index := 0#32
  let c1_743 : Index := 1#32
  let c0_744 : Index := 0#32
  let c0_745 : Index := 0#32
  ![v689.toNat, 0, 1, 0, 0]
def k0_off15 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v708 : Index := Scalar.indexCast v634
  let c0_764 : Index := 0#32
  let c2_765 : Index := 2#32
  let c0_766 : Index := 0#32
  let c0_767 : Index := 0#32
  ![v708.toNat, 0, 2, 0, 0]
def k0_off16 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v727 : Index := Scalar.indexCast v634
  let c0_786 : Index := 0#32
  let c3_787 : Index := 3#32
  let c0_788 : Index := 0#32
  let c0_789 : Index := 0#32
  ![v727.toNat, 0, 3, 0, 0]
def k0_off17 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v746 : Index := Scalar.indexCast v634
  let c0_808 : Index := 0#32
  let c4_809 : Index := 4#32
  let c0_810 : Index := 0#32
  let c0_811 : Index := 0#32
  ![v746.toNat, 0, 4, 0, 0]
def k0_off18 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v765 : Index := Scalar.indexCast v634
  let c0_830 : Index := 0#32
  let c5_831 : Index := 5#32
  let c0_832 : Index := 0#32
  let c0_833 : Index := 0#32
  ![v765.toNat, 0, 5, 0, 0]
def k0_off19 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v784 : Index := Scalar.indexCast v634
  let c0_852 : Index := 0#32
  let c6_853 : Index := 6#32
  let c0_854 : Index := 0#32
  let c0_855 : Index := 0#32
  ![v784.toNat, 0, 6, 0, 0]
def k0_off20 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v803 : Index := Scalar.indexCast v634
  let c0_874 : Index := 0#32
  let c7_875 : Index := 7#32
  let c0_876 : Index := 0#32
  let c0_877 : Index := 0#32
  ![v803.toNat, 0, 7, 0, 0]
def k0_off21 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v822 : Index := Scalar.indexCast v634
  let c1_896 : Index := 1#32
  let c0_897 : Index := 0#32
  let c0_898 : Index := 0#32
  let c0_899 : Index := 0#32
  ![v822.toNat, 1, 0, 0, 0]
def k0_off22 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v841 : Index := Scalar.indexCast v634
  let c1_918 : Index := 1#32
  let c1_919 : Index := 1#32
  let c0_920 : Index := 0#32
  let c0_921 : Index := 0#32
  ![v841.toNat, 1, 1, 0, 0]
def k0_off23 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v860 : Index := Scalar.indexCast v634
  let c1_940 : Index := 1#32
  let c2_941 : Index := 2#32
  let c0_942 : Index := 0#32
  let c0_943 : Index := 0#32
  ![v860.toNat, 1, 2, 0, 0]
def k0_off24 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v879 : Index := Scalar.indexCast v634
  let c1_962 : Index := 1#32
  let c3_963 : Index := 3#32
  let c0_964 : Index := 0#32
  let c0_965 : Index := 0#32
  ![v879.toNat, 1, 3, 0, 0]
def k0_off25 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v898 : Index := Scalar.indexCast v634
  let c1_984 : Index := 1#32
  let c4_985 : Index := 4#32
  let c0_986 : Index := 0#32
  let c0_987 : Index := 0#32
  ![v898.toNat, 1, 4, 0, 0]
def k0_off26 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v917 : Index := Scalar.indexCast v634
  let c1_1006 : Index := 1#32
  let c5_1007 : Index := 5#32
  let c0_1008 : Index := 0#32
  let c0_1009 : Index := 0#32
  ![v917.toNat, 1, 5, 0, 0]
def k0_off27 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v936 : Index := Scalar.indexCast v634
  let c1_1028 : Index := 1#32
  let c6_1029 : Index := 6#32
  let c0_1030 : Index := 0#32
  let c0_1031 : Index := 0#32
  ![v936.toNat, 1, 6, 0, 0]
def k0_off28 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v955 : Index := Scalar.indexCast v634
  let c1_1050 : Index := 1#32
  let c7_1051 : Index := 7#32
  let c0_1052 : Index := 0#32
  let c0_1053 : Index := 0#32
  ![v955.toNat, 1, 7, 0, 0]
def k0_cond4 (k0_t1 : Fin k0_t1_loop.trips) : BitVec 1 :=
  let c0_i32_163 : BitVec 32 := 0#32
  let c1_i32_164 : BitVec 32 := 1#32
  let arg14 : BitVec 32 := Scf.iv c0_i32_163 c1_i32_164 k0_t1
  let c1_i32_1068 : BitVec 32 := 1#32
  let v972 : BitVec 1 := Scalar.cmpi .sge arg14 c1_i32_1068
  let v973 : BitVec 32 := Scalar.extui v972
  let c0_i32_1069 : BitVec 32 := 0#32
  let v974 : BitVec 1 := Scalar.cmpi .ne v973 c0_i32_1069
  v974

def k0_off29 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1014 : Index := Scalar.indexCast v634
  let c0_1141 : Index := 0#32
  let c0_1142 : Index := 0#32
  let c0_1143 : Index := 0#32
  let c0_1144 : Index := 0#32
  ![v1014.toNat, 0, 0, 0, 0]
def k0_off30 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1033 : Index := Scalar.indexCast v634
  let c0_1163 : Index := 0#32
  let c1_1164 : Index := 1#32
  let c0_1165 : Index := 0#32
  let c0_1166 : Index := 0#32
  ![v1033.toNat, 0, 1, 0, 0]
def k0_off31 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1052 : Index := Scalar.indexCast v634
  let c0_1185 : Index := 0#32
  let c2_1186 : Index := 2#32
  let c0_1187 : Index := 0#32
  let c0_1188 : Index := 0#32
  ![v1052.toNat, 0, 2, 0, 0]
def k0_off32 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1071 : Index := Scalar.indexCast v634
  let c0_1207 : Index := 0#32
  let c3_1208 : Index := 3#32
  let c0_1209 : Index := 0#32
  let c0_1210 : Index := 0#32
  ![v1071.toNat, 0, 3, 0, 0]
def k0_off33 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1090 : Index := Scalar.indexCast v634
  let c0_1229 : Index := 0#32
  let c4_1230 : Index := 4#32
  let c0_1231 : Index := 0#32
  let c0_1232 : Index := 0#32
  ![v1090.toNat, 0, 4, 0, 0]
def k0_off34 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1109 : Index := Scalar.indexCast v634
  let c0_1251 : Index := 0#32
  let c5_1252 : Index := 5#32
  let c0_1253 : Index := 0#32
  let c0_1254 : Index := 0#32
  ![v1109.toNat, 0, 5, 0, 0]
def k0_off35 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1128 : Index := Scalar.indexCast v634
  let c0_1273 : Index := 0#32
  let c6_1274 : Index := 6#32
  let c0_1275 : Index := 0#32
  let c0_1276 : Index := 0#32
  ![v1128.toNat, 0, 6, 0, 0]
def k0_off36 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1147 : Index := Scalar.indexCast v634
  let c0_1295 : Index := 0#32
  let c7_1296 : Index := 7#32
  let c0_1297 : Index := 0#32
  let c0_1298 : Index := 0#32
  ![v1147.toNat, 0, 7, 0, 0]
def k0_off37 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1166 : Index := Scalar.indexCast v634
  let c1_1317 : Index := 1#32
  let c0_1318 : Index := 0#32
  let c0_1319 : Index := 0#32
  let c0_1320 : Index := 0#32
  ![v1166.toNat, 1, 0, 0, 0]
def k0_off38 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1185 : Index := Scalar.indexCast v634
  let c1_1339 : Index := 1#32
  let c1_1340 : Index := 1#32
  let c0_1341 : Index := 0#32
  let c0_1342 : Index := 0#32
  ![v1185.toNat, 1, 1, 0, 0]
def k0_off39 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1204 : Index := Scalar.indexCast v634
  let c1_1361 : Index := 1#32
  let c2_1362 : Index := 2#32
  let c0_1363 : Index := 0#32
  let c0_1364 : Index := 0#32
  ![v1204.toNat, 1, 2, 0, 0]
def k0_off40 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1223 : Index := Scalar.indexCast v634
  let c1_1383 : Index := 1#32
  let c3_1384 : Index := 3#32
  let c0_1385 : Index := 0#32
  let c0_1386 : Index := 0#32
  ![v1223.toNat, 1, 3, 0, 0]
def k0_off41 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1242 : Index := Scalar.indexCast v634
  let c1_1405 : Index := 1#32
  let c4_1406 : Index := 4#32
  let c0_1407 : Index := 0#32
  let c0_1408 : Index := 0#32
  ![v1242.toNat, 1, 4, 0, 0]
def k0_off42 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1261 : Index := Scalar.indexCast v634
  let c1_1427 : Index := 1#32
  let c5_1428 : Index := 5#32
  let c0_1429 : Index := 0#32
  let c0_1430 : Index := 0#32
  ![v1261.toNat, 1, 5, 0, 0]
def k0_off43 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1280 : Index := Scalar.indexCast v634
  let c1_1449 : Index := 1#32
  let c6_1450 : Index := 6#32
  let c0_1451 : Index := 0#32
  let c0_1452 : Index := 0#32
  ![v1280.toNat, 1, 6, 0, 0]
def k0_off44 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let v1299 : Index := Scalar.indexCast v634
  let c1_1471 : Index := 1#32
  let c7_1472 : Index := 7#32
  let c0_1473 : Index := 0#32
  let c0_1474 : Index := 0#32
  ![v1299.toNat, 1, 7, 0, 0]
def k0_cond5 (k0_t1 : Fin k0_t1_loop.trips) : BitVec 1 :=
  let c0_i32_163 : BitVec 32 := 0#32
  let c1_i32_164 : BitVec 32 := 1#32
  let arg14 : BitVec 32 := Scf.iv c0_i32_163 c1_i32_164 k0_t1
  let c14_i32_1124 : BitVec 32 := 14#32
  let v1003 : BitVec 1 := Scalar.cmpi .sle arg14 c14_i32_1124
  let v1004 : BitVec 32 := Scalar.extui v1003
  let c0_i32_1133 : BitVec 32 := 0#32
  let v1005 : BitVec 1 := Scalar.cmpi .ne v1004 c0_i32_1133
  v1005

def k0_off45 (k0_t1 : Fin k0_t1_loop.trips) : Fin 3 → Nat :=
  let c1_i32_1125 : BitVec 32 := 1#32
  let c0_i32_1126 : BitVec 32 := 0#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![1, 0, v634.toNat]
def k0_off46 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  let c0_i32_1138 : BitVec 32 := 0#32
  let c0_i32_1139 : BitVec 32 := 0#32
  let c0_i32_1140 : BitVec 32 := 0#32
  let c0_i32_1141 : BitVec 32 := 0#32
  ![v634.toNat, 0, 0, 0, 0]
def k0_off47 (k0_t1 : Fin k0_t1_loop.trips) : Fin 5 → Nat :=
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  let c0_i32_1142 : BitVec 32 := 0#32
  let c0_i32_1143 : BitVec 32 := 0#32
  let c0_i32_1144 : BitVec 32 := 0#32
  let c0_i32_1145 : BitVec 32 := 0#32
  ![v636.toNat, 0, 0, 0, 0]
def k0_off48 (k0_t1 : Fin k0_t1_loop.trips) : Fin 3 → Nat :=
  let c1_i32_1127 : BitVec 32 := 1#32
  let c0_i32_1128 : BitVec 32 := 0#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![1, 0, v636.toNat]
def k0_off49 (k0_t1 : Fin k0_t1_loop.trips) : Fin 3 → Nat :=
  let c1_i32_1129 : BitVec 32 := 1#32
  let c1_i32_1130 : BitVec 32 := 1#32
  let c0_i32_163 : BitVec 32 := 0#32
  let c1_i32_164 : BitVec 32 := 1#32
  let arg14 : BitVec 32 := Scf.iv c0_i32_163 c1_i32_164 k0_t1
  let c2_i32_671 : BitVec 32 := 2#32
  let v634 : BitVec 32 := Scalar.remsi arg14 c2_i32_671
  ![1, 1, v634.toNat]
def k0_off50 (k0_t1 : Fin k0_t1_loop.trips) : Fin 3 → Nat :=
  let c1_i32_1131 : BitVec 32 := 1#32
  let c1_i32_1132 : BitVec 32 := 1#32
  let c0_i32_163 : BitVec 32 := 0#32
  let c1_i32_164 : BitVec 32 := 1#32
  let arg14 : BitVec 32 := Scf.iv c0_i32_163 c1_i32_164 k0_t1
  let c1_i32_672 : BitVec 32 := 1#32
  let v635 : BitVec 32 := Scalar.addi arg14 c1_i32_672
  let c2_i32_673 : BitVec 32 := 2#32
  let v636 : BitVec 32 := Scalar.remsi v635 c2_i32_673
  ![1, 1, v636.toNat]
def k0_cond6 (k0_t1 : Fin k0_t1_loop.trips) : BitVec 1 :=
  let c0_i32_163 : BitVec 32 := 0#32
  let c1_i32_164 : BitVec 32 := 1#32
  let arg14 : BitVec 32 := Scf.iv c0_i32_163 c1_i32_164 k0_t1
  let c14_i32_1134 : BitVec 32 := 14#32
  let v1006 : BitVec 1 := Scalar.cmpi .sle arg14 c14_i32_1134
  let v1007 : BitVec 32 := Scalar.extui v1006
  let c0_i32_1135 : BitVec 32 := 0#32
  let v1008 : BitVec 1 := Scalar.cmpi .ne v1007 c0_i32_1135
  v1008

def k0_dev7 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_74 : BitVec 32 := 0#32
  let v138 : BitVec 1 := Scalar.cmpi .eq v53 c0_i32_74
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c0_i32_75 : BitVec 32 := 0#32
  let v139 : BitVec 1 := Scalar.cmpi .eq v68 c0_i32_75
  let c0_i32_77 : BitVec 32 := 0#32
  let c1_i32_76 : BitVec 32 := 1#32
  let v140 : BitVec 32 := Scalar.subi v68 c1_i32_76
  let v141 : BitVec 32 := Scalar.select v139 c0_i32_77 v140
  let c15_i32_78 : BitVec 32 := 15#32
  let v142 : BitVec 1 := Scalar.cmpi .eq v68 c15_i32_78
  let c15_i32_80 : BitVec 32 := 15#32
  let c1_i32_79 : BitVec 32 := 1#32
  let v143 : BitVec 32 := Scalar.addi v68 c1_i32_79
  let v144 : BitVec 32 := Scalar.select v142 c15_i32_80 v143
  let v145 : BitVec 32 := Scalar.select v138 v141 v144
  let c0_i32_82 : BitVec 32 := 0#32
  let v147 : BitVec 1 := Scalar.cmpi .sgt v145 c0_i32_82
  let v148 : BitVec 32 := Scalar.extui v147
  let c0_i32_83 : BitVec 32 := 0#32
  let v149 : BitVec 1 := Scalar.cmpi .slt v145 c0_i32_83
  let v150 : BitVec 32 := Scalar.extui v149
  let v151 : BitVec 32 := Scalar.subi v148 v150
  let c4_i32_81 : BitVec 32 := 4#32
  let c0_i32_84 : BitVec 32 := 0#32
  let v152 : BitVec 1 := Scalar.cmpi .sgt c4_i32_81 c0_i32_84
  let v153 : BitVec 32 := Scalar.extui v152
  let c0_i32_85 : BitVec 32 := 0#32
  let v154 : BitVec 1 := Scalar.cmpi .slt c4_i32_81 c0_i32_85
  let v155 : BitVec 32 := Scalar.extui v154
  let v156 : BitVec 32 := Scalar.subi v153 v155
  let v157 : BitVec 1 := Scalar.cmpi .ne v151 v156
  let v158 : BitVec 32 := Scalar.remsi v145 c4_i32_81
  let c0_i32_86 : BitVec 32 := 0#32
  let v159 : BitVec 1 := Scalar.cmpi .ne v158 c0_i32_86
  let v160 : BitVec 1 := Scalar.andi v157 v159
  let v146 : BitVec 32 := Scalar.divsi v145 c4_i32_81
  let c1_i32_87 : BitVec 32 := 1#32
  let v161 : BitVec 32 := Scalar.subi v146 c1_i32_87
  let v162 : BitVec 32 := Scalar.select v160 v161 v146
  let c8_i32_97 : BitVec 32 := 8#32
  let v178 : BitVec 32 := Scalar.muli v162 c8_i32_97
  let c2_i32_89 : BitVec 32 := 2#32
  let c0_i32_90 : BitVec 32 := 0#32
  let v165 : BitVec 1 := Scalar.cmpi .eq c2_i32_89 c0_i32_90
  let c1_i32_91 : BitVec 32 := 1#32
  let v166 : BitVec 32 := Scalar.select v165 c1_i32_91 c2_i32_89
  let v167 : BitVec 32 := Scalar.remsi v162 v166
  let c0_i32_93 : BitVec 32 := 0#32
  let v169 : BitVec 1 := Scalar.cmpi .slt v167 c0_i32_93
  let c0_i32_94 : BitVec 32 := 0#32
  let v170 : BitVec 1 := Scalar.cmpi .slt v166 c0_i32_94
  let v171 : BitVec 1 := Scalar.xori v169 v170
  let c0_i32_92 : BitVec 32 := 0#32
  let v168 : BitVec 1 := Scalar.cmpi .ne v167 c0_i32_92
  let v172 : BitVec 1 := Scalar.andi v171 v168
  let v173 : BitVec 32 := Scalar.addi v167 v166
  let v174 : BitVec 32 := Scalar.select v172 v173 v167
  let c0_i32_95 : BitVec 32 := 0#32
  let v175 : BitVec 1 := Scalar.cmpi .eq v174 c0_i32_95
  let c4_i32_88 : BitVec 32 := 4#32
  let v163 : BitVec 32 := Scalar.muli c4_i32_88 v162
  let v164 : BitVec 32 := Scalar.subi v145 v163
  let c3_i32_96 : BitVec 32 := 3#32
  let v176 : BitVec 32 := Scalar.subi c3_i32_96 v164
  let v177 : BitVec 32 := Scalar.select v175 v164 v176
  let c2_i32_98 : BitVec 32 := 2#32
  let v179 : BitVec 32 := Scalar.muli v177 c2_i32_98
  let v180 : BitVec 32 := Scalar.addi v178 v179
  let c2_i32_99 : BitVec 32 := 2#32
  let c0_i32_100 : BitVec 32 := 0#32
  let v181 : BitVec 1 := Scalar.cmpi .eq c2_i32_99 c0_i32_100
  let c1_i32_101 : BitVec 32 := 1#32
  let v182 : BitVec 32 := Scalar.select v181 c1_i32_101 c2_i32_99
  let v183 : BitVec 32 := Scalar.remsi v177 v182
  let c0_i32_103 : BitVec 32 := 0#32
  let v185 : BitVec 1 := Scalar.cmpi .slt v183 c0_i32_103
  let c0_i32_104 : BitVec 32 := 0#32
  let v186 : BitVec 1 := Scalar.cmpi .slt v182 c0_i32_104
  let v187 : BitVec 1 := Scalar.xori v185 v186
  let c0_i32_102 : BitVec 32 := 0#32
  let v184 : BitVec 1 := Scalar.cmpi .ne v183 c0_i32_102
  let v188 : BitVec 1 := Scalar.andi v187 v184
  let v189 : BitVec 32 := Scalar.addi v183 v182
  let v190 : BitVec 32 := Scalar.select v188 v189 v183
  let c0_i32_105 : BitVec 32 := 0#32
  let v191 : BitVec 1 := Scalar.cmpi .eq v190 c0_i32_105
  let c0_i32_67 : BitVec 32 := 0#32
  let v132 : BitVec 1 := Scalar.cmpi .eq v53 c0_i32_67
  let c0_i32_68 : BitVec 32 := 0#32
  let v133 : BitVec 1 := Scalar.cmpi .eq v68 c0_i32_68
  let c1_i32_69 : BitVec 32 := 1#32
  let c0_i32_70 : BitVec 32 := 0#32
  let v134 : BitVec 32 := Scalar.select v133 c1_i32_69 c0_i32_70
  let c15_i32_71 : BitVec 32 := 15#32
  let v135 : BitVec 1 := Scalar.cmpi .eq v68 c15_i32_71
  let c0_i32_72 : BitVec 32 := 0#32
  let c1_i32_73 : BitVec 32 := 1#32
  let v136 : BitVec 32 := Scalar.select v135 c0_i32_72 c1_i32_73
  let v137 : BitVec 32 := Scalar.select v132 v134 v136
  let c1_i32_106 : BitVec 32 := 1#32
  let v192 : BitVec 32 := Scalar.subi c1_i32_106 v137
  let v193 : BitVec 32 := Scalar.select v191 v137 v192
  let v194 : BitVec 32 := Scalar.addi v180 v193
  let c1_i32_1138 : BitVec 32 := 1#32
  let v1012 : BitVec 32 := Scalar.muli v194 c1_i32_1138
  let v1013 : BitVec 32 := Scalar.addi c0_i32_1139 v1012
  v1013.toNat
def k0_cond7 (k0_t1 : Fin k0_t1_loop.trips) : BitVec 1 :=
  let c0_i32_163 : BitVec 32 := 0#32
  let c1_i32_164 : BitVec 32 := 1#32
  let arg14 : BitVec 32 := Scf.iv c0_i32_163 c1_i32_164 k0_t1
  let c13_i32 : BitVec 32 := 13#32
  let v1009 : BitVec 1 := Scalar.cmpi .sle arg14 c13_i32
  let v1010 : BitVec 32 := Scalar.extui v1009
  let c0_i32_1136 : BitVec 32 := 0#32
  let v1011 : BitVec 1 := Scalar.cmpi .ne v1010 c0_i32_1136
  v1011

def k0_dev8 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_34 : BitVec 32 := 0#32
  let v75 : BitVec 1 := Scalar.cmpi .eq v53 c0_i32_34
  let c4_i32 : BitVec 32 := 4#32
  let v54 : BitVec 32 := Scalar.muli v19 c4_i32
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c15_i32_35 : BitVec 32 := 15#32
  let v76 : BitVec 1 := Scalar.cmpi .eq v68 c15_i32_35
  let c15_i32_37 : BitVec 32 := 15#32
  let c1_i32_36 : BitVec 32 := 1#32
  let v77 : BitVec 32 := Scalar.addi v68 c1_i32_36
  let v78 : BitVec 32 := Scalar.select v76 c15_i32_37 v77
  let c0_i32_38 : BitVec 32 := 0#32
  let v79 : BitVec 1 := Scalar.cmpi .eq v68 c0_i32_38
  let c0_i32_40 : BitVec 32 := 0#32
  let c1_i32_39 : BitVec 32 := 1#32
  let v80 : BitVec 32 := Scalar.subi v68 c1_i32_39
  let v81 : BitVec 32 := Scalar.select v79 c0_i32_40 v80
  let v82 : BitVec 32 := Scalar.select v75 v78 v81
  let c0_i32_42 : BitVec 32 := 0#32
  let v84 : BitVec 1 := Scalar.cmpi .sgt v82 c0_i32_42
  let v85 : BitVec 32 := Scalar.extui v84
  let c0_i32_43 : BitVec 32 := 0#32
  let v86 : BitVec 1 := Scalar.cmpi .slt v82 c0_i32_43
  let v87 : BitVec 32 := Scalar.extui v86
  let v88 : BitVec 32 := Scalar.subi v85 v87
  let c4_i32_41 : BitVec 32 := 4#32
  let c0_i32_44 : BitVec 32 := 0#32
  let v89 : BitVec 1 := Scalar.cmpi .sgt c4_i32_41 c0_i32_44
  let v90 : BitVec 32 := Scalar.extui v89
  let c0_i32_45 : BitVec 32 := 0#32
  let v91 : BitVec 1 := Scalar.cmpi .slt c4_i32_41 c0_i32_45
  let v92 : BitVec 32 := Scalar.extui v91
  let v93 : BitVec 32 := Scalar.subi v90 v92
  let v94 : BitVec 1 := Scalar.cmpi .ne v88 v93
  let v95 : BitVec 32 := Scalar.remsi v82 c4_i32_41
  let c0_i32_46 : BitVec 32 := 0#32
  let v96 : BitVec 1 := Scalar.cmpi .ne v95 c0_i32_46
  let v97 : BitVec 1 := Scalar.andi v94 v96
  let v83 : BitVec 32 := Scalar.divsi v82 c4_i32_41
  let c1_i32_47 : BitVec 32 := 1#32
  let v98 : BitVec 32 := Scalar.subi v83 c1_i32_47
  let v99 : BitVec 32 := Scalar.select v97 v98 v83
  let c8_i32_57 : BitVec 32 := 8#32
  let v115 : BitVec 32 := Scalar.muli v99 c8_i32_57
  let c2_i32_49 : BitVec 32 := 2#32
  let c0_i32_50 : BitVec 32 := 0#32
  let v102 : BitVec 1 := Scalar.cmpi .eq c2_i32_49 c0_i32_50
  let c1_i32_51 : BitVec 32 := 1#32
  let v103 : BitVec 32 := Scalar.select v102 c1_i32_51 c2_i32_49
  let v104 : BitVec 32 := Scalar.remsi v99 v103
  let c0_i32_53 : BitVec 32 := 0#32
  let v106 : BitVec 1 := Scalar.cmpi .slt v104 c0_i32_53
  let c0_i32_54 : BitVec 32 := 0#32
  let v107 : BitVec 1 := Scalar.cmpi .slt v103 c0_i32_54
  let v108 : BitVec 1 := Scalar.xori v106 v107
  let c0_i32_52 : BitVec 32 := 0#32
  let v105 : BitVec 1 := Scalar.cmpi .ne v104 c0_i32_52
  let v109 : BitVec 1 := Scalar.andi v108 v105
  let v110 : BitVec 32 := Scalar.addi v104 v103
  let v111 : BitVec 32 := Scalar.select v109 v110 v104
  let c0_i32_55 : BitVec 32 := 0#32
  let v112 : BitVec 1 := Scalar.cmpi .eq v111 c0_i32_55
  let c4_i32_48 : BitVec 32 := 4#32
  let v100 : BitVec 32 := Scalar.muli c4_i32_48 v99
  let v101 : BitVec 32 := Scalar.subi v82 v100
  let c3_i32_56 : BitVec 32 := 3#32
  let v113 : BitVec 32 := Scalar.subi c3_i32_56 v101
  let v114 : BitVec 32 := Scalar.select v112 v101 v113
  let c2_i32_58 : BitVec 32 := 2#32
  let v116 : BitVec 32 := Scalar.muli v114 c2_i32_58
  let v117 : BitVec 32 := Scalar.addi v115 v116
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v114 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c0_i32_65 : BitVec 32 := 0#32
  let v128 : BitVec 1 := Scalar.cmpi .eq v127 c0_i32_65
  let c0_i32_28 : BitVec 32 := 0#32
  let v69 : BitVec 1 := Scalar.cmpi .eq v53 c0_i32_28
  let c15_i32 : BitVec 32 := 15#32
  let v70 : BitVec 1 := Scalar.cmpi .eq v68 c15_i32
  let c1_i32_29 : BitVec 32 := 1#32
  let c0_i32_30 : BitVec 32 := 0#32
  let v71 : BitVec 32 := Scalar.select v70 c1_i32_29 c0_i32_30
  let c0_i32_31 : BitVec 32 := 0#32
  let v72 : BitVec 1 := Scalar.cmpi .eq v68 c0_i32_31
  let c0_i32_32 : BitVec 32 := 0#32
  let c1_i32_33 : BitVec 32 := 1#32
  let v73 : BitVec 32 := Scalar.select v72 c0_i32_32 c1_i32_33
  let v74 : BitVec 32 := Scalar.select v69 v71 v73
  let c1_i32_66 : BitVec 32 := 1#32
  let v129 : BitVec 32 := Scalar.subi c1_i32_66 v74
  let v130 : BitVec 32 := Scalar.select v128 v74 v129
  let v131 : BitVec 32 := Scalar.addi v117 v130
  let c1_i32_1138 : BitVec 32 := 1#32
  let v1012 : BitVec 32 := Scalar.muli v131 c1_i32_1138
  let v1013 : BitVec 32 := Scalar.addi c0_i32_1139 v1012
  v1013.toNat
abbrev stage0_0 : Fin 1 → Memref sig .tc .vmem S2x8x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x8192x8x64 : Shape := ⟨4, ![2, 8192, 8, 64]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8x8192x8192, .f32⟩
  | .hbm, ⟨4, _⟩ => ⟨S_, .f32⟩
  | .hbm, ⟨5, _⟩ => ⟨S2x8x8192x8192, .f32⟩
  | .hbm, ⟨6, _⟩ => ⟨S2x8x8192x8192, .f32⟩
  | .hbm, ⟨7, _⟩ => ⟨S_, .f32⟩
  | .hbm, ⟨8, _⟩ => ⟨S2x8x8192, .f32⟩
  | .hbm, ⟨9, _⟩ => ⟨S2x8x8192x1, .f32⟩
  | .hbm, ⟨10, _⟩ => ⟨S2x8x8192x8192, .f32⟩
  | .hbm, ⟨11, _⟩ => ⟨S2x8x8192x8192, .f32⟩
  | .hbm, ⟨12, _⟩ => ⟨S2x8x8192x8192, .f32⟩
  | .hbm, ⟨13, _⟩ => ⟨S_, .f32⟩
  | .hbm, ⟨14, _⟩ => ⟨S2x8x8192, .f32⟩
  | .hbm, ⟨15, _⟩ => ⟨S2x8x8192x1, .f32⟩
  | .hbm, ⟨16, _⟩ => ⟨S2x8x8192x8192, .f32⟩
  | .hbm, ⟨17, _⟩ => ⟨S2x8x8192x8192, .f32⟩
  | .hbm, ⟨18, _⟩ => ⟨S2x8x64x8192, .f32⟩
  | .hbm, ⟨19, _⟩ => ⟨S2x8192x8x64, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
  The talk of the kernel with its neighbours on the ring: who sends what to whom, on which semaphore cell,
  in which round, with which contents. Direction 0 passes blocks to the right neighbour and direction 1 to the left.
-/
module

public import proofs.«01_k».proof.Proof.Gen.KernelIdeal.Launch
public import proofs.«01_k».proof.Proof.Gen.KernelIdeal.Skeleton
public import Idealize.ShloMosaic.Lib.Rounds
public import Idealize.ShloMosaic.Lib.Tactic

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type}

/-! ## The ring -/

/-- The device at each place of the ring. -/
def atPlace : Fin 32 → Dev nD :=
  ![0, 3, 4, 7, 15, 12, 11, 8, 16, 19, 20, 23, 31, 28, 27, 24, 25, 26, 29, 30, 22, 21, 18, 17, 9, 10, 13, 14, 6, 5, 2, 1]
/-- The place of each device on the ring. -/
def placeOf : Dev nD → Fin 32 :=
  ![0, 31, 30, 1, 2, 29, 28, 3, 7, 24, 25, 6, 5, 26, 27, 4, 8, 23, 22, 9, 10, 21, 20, 11, 15, 16, 17, 14, 13, 18, 19, 12]

theorem atPlace_placeOf (c : Dev nD) : atPlace (placeOf c) = c := by revert c; decide
theorem placeOf_atPlace (p : Fin 32) : placeOf (atPlace p) = p := by revert p; decide

/-- The step between places: forward in direction 0, backward in direction 1. -/
def dir (d : Fin 2) : Fin 32 := ![1, 31] d
/-- The neighbour that device c sends to in direction d. -/
def nx (d : Fin 2) (c : Dev nD) : Dev nD := atPlace (placeOf c + dir d)
/-- The neighbour that device c receives from in direction d. -/
def pv (d : Fin 2) (c : Dev nD) : Dev nD := atPlace (placeOf c - dir d)
theorem pv_nx (d : Fin 2) (c : Dev nD) : pv d (nx d c) = c := by
  revert d c; decide
theorem nx_pv (d : Fin 2) (c : Dev nD) : nx d (pv d c) = c := by
  revert d c; decide
/-- The device k places before c in direction d: whose block c holds at step k. -/
def pvn (d : Fin 2) (k : ℕ) (c : Dev nD) : Dev nD := (pv d)^[k] c
theorem pvn_succ_nx (d : Fin 2) (k : ℕ) (c : Dev nD) : pvn d (k + 1) (nx d c) = pvn d k c := by
  unfold pvn; rw [Function.iterate_succ_apply, pv_nx]
def ringEquiv (d : Fin 2) : Dev nD ≃ Dev nD := ⟨nx d, pv d, pv_nx d, nx_pv d⟩

theorem dev1_eq (c : Dev nD) : (⟨k0_dev1 c, k0_dev1_lt c⟩ : Dev nD) = pv 0 c :=
  Fin.ext (by revert c; decide +kernel)
theorem dev2_eq (c : Dev nD) : (⟨k0_dev2 c, k0_dev2_lt c⟩ : Dev nD) = pv 1 c :=
  Fin.ext (by revert c; decide +kernel)
theorem dev3_eq (c : Dev nD) : (⟨k0_dev3 c, k0_dev3_lt c⟩ : Dev nD) = nx 0 c :=
  Fin.ext (by revert c; decide +kernel)
theorem dev4_eq (c : Dev nD) : (⟨k0_dev4 c, k0_dev4_lt c⟩ : Dev nD) = nx 0 c :=
  Fin.ext (by revert c; decide +kernel)
theorem val5 (c : Dev nD) : k0_dev5 c = (nx 1 c).val := by revert c; decide +kernel
theorem val6 (c : Dev nD) : k0_dev6 c = (nx 1 c).val := by revert c; decide +kernel
theorem val7 (c : Dev nD) : k0_dev7 c = (pv 0 c).val := by revert c; decide +kernel
theorem val8 (c : Dev nD) : k0_dev8 c = (pv 1 c).val := by revert c; decide +kernel

/-! ## Buffers and slots -/

/-- The buffer of direction d: b = 0 of the keys, b = 1 of the values. -/
abbrev buf (d b : Fin 2) : Memref sig .tc .vmem S2x2x8x256x64 .bf16 :=
  match d, b with
  | 0, 0 => Memref.whole cc0_scratch1
  | 0, 1 => Memref.whole cc0_scratch2
  | 1, 0 => Memref.whole cc0_scratch3
  | 1, 1 => Memref.whole cc0_scratch4

theorem slot_inb (j : Fin 2) : ∀ i, (![j.val, 0, 0, 0, 0] : Fin 5 → ℕ) i + S1x2x8x256x64.size i ≤ S2x2x8x256x64.size i := by
  revert j; decide
/-- Slot j of a buffer of two slots. -/
abbrev slotOf (M : Memref sig .tc .vmem S2x2x8x256x64 .bf16) (j : Fin 2) : Memref sig .tc .vmem S2x8x256x64 .bf16 :=
  (M.slice (Rect.unit (s := S2x2x8x256x64) ![j.val, 0, 0, 0, 0] S1x2x8x256x64.size (slot_inb j)) (fun _ => rfl)).squeeze
    S2x8x256x64 squeezes_S1x2x8x256x64_S2x8x256x64
abbrev slotM (d b j : Fin 2) : Memref sig .tc .vmem S2x8x256x64 .bf16 := slotOf (buf d b) j
/-- The slot in use at step s. -/
def sl (s : ℕ) : Fin 2 := ⟨s % 2, Nat.mod_lt _ (by decide)⟩
theorem sl_add_two (s : ℕ) : sl (s + 2) = sl s := Fin.ext (by show (s + 2) % 2 = s % 2; omega)
/-- The number of bytes a block's copy is credited with. -/
def N : ℕ := (slotM 0 0 0).view.dmaCredit
theorem N_pos : 0 < N := View.dmaCredit_pos _ (by decide)
theorem amount_slot (d b j : Fin 2) (q : DmaSem sig) : (slotM d b j).view.amount (.dma q) = N := by
  revert d b j; unfold N
  intro d b j
  fin_cases d <;> fin_cases b <;> fin_cases j <;> rfl

/-! ## Semaphore cells -/

/-- What a semaphore cell is for. -/
inductive Role where
  | bar
  | send (d b j : Fin 2)
  | recv (d b j : Fin 2)
  | cred (d : Fin 2)
deriving DecidableEq

/-- All roles. -/
def roles : List Role :=
  [.bar, .send 0 0 0, .send 0 0 1, .send 0 1 0, .send 0 1 1, .send 1 0 0, .send 1 0 1, .send 1 1 0, .send 1 1 1,
    .recv 0 0 0, .recv 0 0 1, .recv 0 1 0, .recv 0 1 1, .recv 1 0 0, .recv 1 0 1, .recv 1 1 0, .recv 1 1 1, .cred 0, .cred 1]
theorem roles_nodup : roles.Nodup := by decide
theorem mem_roles (r : Role) : r ∈ roles := by
  rcases r with _ | ⟨d, b, j⟩ | ⟨d, b, j⟩ | d
  · decide
  · revert d b j; decide
  · revert d b j; decide
  · revert d; decide
instance : Fintype Role := ⟨⟨roles, roles_nodup⟩, mem_roles⟩

/-- The semaphore of each role. -/
def loc : Role → SemLoc sig
  | .bar => .reg barrier0
  | .send d b j => .dma ⟨4 + (4 * d.val + 2 * b.val + j.val), by show _ < 20; omega⟩
  | .recv d b j => .dma ⟨12 + (4 * d.val + 2 * b.val + j.val), by show _ < 20; omega⟩
  | .cred d => .reg ⟨d.val, by show d.val < 3; omega⟩

/-- The role of each semaphore, if the talk uses it. -/
def role : SemLoc sig → Option Role
  | .reg s => if s.val = 0 then some (.cred 0) else if s.val = 1 then some (.cred 1) else some .bar
  | .dma s =>
    if s.val < 4 then none
    else if s.val < 12 then some (.send (sl ((s.val - 4) / 4)) (sl ((s.val - 4) / 2)) (sl (s.val - 4)))
    else some (.recv (sl ((s.val - 12) / 4)) (sl ((s.val - 12) / 2)) (sl (s.val - 12)))

theorem role_loc (r : Role) : role (loc r) = some r := by
  rcases r with _ | ⟨d, b, j⟩ | ⟨d, b, j⟩ | d
  · rfl
  · revert d b j; decide
  · revert d b j; decide
  · revert d; decide

/-- The cell of a role on a device. -/
def cell (c : Dev nD) (r : Role) : GSem nD τ sig := ((c : Thread nD τ), loc r)
theorem cell_inj {c c' : Dev nD} {r r' : Role} (h : cell c r = cell c' r') : c = c' ∧ r = r' := by
  unfold cell at h
  have h1 := congrArg (fun g : GSem nD τ sig => g.1.1) h
  have h2 := congrArg (fun g : GSem nD τ sig => role g.2) h
  simp only [role_loc, Option.some.injEq] at h2
  exact ⟨h1, h2⟩

/-! ## The resource algebra -/

/-- The pipeline library's component, and the talk's. -/
abbrev UU : Type := UR sig nD τ × URounds (GSem nD τ sig) (Fin 2)
/-- The assertions' algebra: index and level are numbers. -/
abbrev 𝕄 (F : FTy → Type) : Type := MT nD τ sig ℕ (Elt F) ℕ UU ℕ
abbrev EP : Emb (UR sig nD τ) (𝕄 F) := embL
abbrev ER : Emb (URounds (GSem nD τ sig) (Fin 2)) (𝕄 F) := embR

/-! ## Contents -/

/-- A block: what a slot holds, over its own positions. -/
abbrev Blk (F : FTy → Type) : Type := S2x8x256x64.Idx → Elt F .bf16

/-- Slot j on device c, at share q, holding x. -/
def slotPts (d b j : Fin 2) (c : Dev nD) (q : PosShare TreeShare) (x : Blk F) : sProp (𝕄 F) :=
  iprop(∃ f : Buf (Elt F) ((slotM d b j).view.loc (c : Thread nD τ)), ⌜(slotM d b j).view.read (Elt F) f = x⌝
    ∗ ((slotM d b j).view.loc (c : Thread nD τ) ↦[(slotM d b j).view.set]{q} f))
/-- Slot j on device c, at contents not chosen. -/
def slotAny (d b j : Fin 2) (c : Dev nD) : sProp (𝕄 F) := iprop(∃ x, slotPts d b j c fullShare x)

theorem slotPts_any (d b j : Fin 2) (c : Dev nD) (x : Blk F) : slotPts d b j c fullShare x ⊢ slotAny d b j c := by
  unfold slotAny; iintro H; iexists x; iexact H

instance (d b j : Fin 2) (c : Dev nD) (q : PosShare TreeShare) (x : Blk F) :
    BI.Storable (upEmb : UEmb _ (𝕄 F)) (slotPts d b j c q x) := by unfold slotPts; infer_instance
instance (d b j : Fin 2) (c : Dev nD) : BI.Storable (upEmb : UEmb _ (𝕄 F)) (slotAny (F := F) d b j c) := by
  unfold slotAny; infer_instance

/-! ## The schedule -/

/-- The number of steps of each direction. -/
def S (d : Fin 2) : ℕ := ![16, 15] d

/-- Leave to write into the neighbour's slots at step s: the slots, and that their receive cells stand at the round. -/
def permB (c : Dev nD) (d : Fin 2) (s : ℕ) (b : Fin 2) : sProp (𝕄 F) :=
  iprop(slotAny d b (sl (s + 1)) (nx d c) ∗ reached ER (cell (nx d c) (.recv d b (sl (s + 1)))) (s / 2))
def perm (c : Dev nD) (d : Fin 2) (s : ℕ) : sProp (𝕄 F) := iprop(permB c d s 0 ∗ permB c d s 1)

instance (c : Dev nD) (d : Fin 2) (s : ℕ) (b : Fin 2) : BI.Storable (upEmb : UEmb _ (𝕄 F)) (permB (F := F) c d s b) := by
  unfold permB; infer_instance
instance (c : Dev nD) (d : Fin 2) (s : ℕ) : BI.Storable (upEmb : UEmb _ (𝕄 F)) (perm (F := F) c d s) := by
  unfold perm; infer_instance

/-- The half of a slot lent to its copy, and the half kept. -/
def lent : PosShare TreeShare := PosShare.left fullShare
def kept : PosShare TreeShare := PosShare.right fullShare

/-- The duties of a round. -/
def dut : Role → ℕ → Finset (Fin 2)
  | .bar, r => if r = 0 then Finset.univ else ∅
  | .send d _ j, r => if 2 * r + j.val < S d then {0} else ∅
  | .recv d _ j, r => if 2 * r + 1 < S d + j.val then {0} else ∅
  | .cred d, r => if r + 1 < S d then {0} else ∅
/-- The units of a duty. -/
def amt : Role → ℕ
  | .bar => 1
  | .send .. => N
  | .recv .. => N
  | .cred _ => 1

theorem dut_send {d b j : Fin 2} {r : ℕ} (h : 2 * r + j.val < S d) : dut (.send d b j) r = {0} := if_pos h
theorem dut_recv {d b j : Fin 2} {r : ℕ} (h : 2 * r + 1 < S d + j.val) : dut (.recv d b j) r = {0} := if_pos h
theorem dut_cred {d : Fin 2} {r : ℕ} (h : r + 1 < S d) : dut (.cred d) r = {0} := if_pos h

variable (X : Fin 2 → Dev nD → Blk F)

/-- What a duty hands over. -/
def pay (c : Dev nD) : Role → ℕ → Fin 2 → sProp (𝕄 F)
  | .bar, _, d => perm c d 0
  | .send d b j, r, _ => slotPts d b j c lent (X b (pvn d (2 * r + j.val) c))
  | .recv d b j, r, _ => iprop(slotPts d b j c fullShare (X b (pvn d (2 * r + 1 - j.val + 1) c))
      ∗ reached ER (cell (pv d c) (.cred d)) (2 * r + 1 - j.val))
  | .cred d, r, _ => perm c d (r + 1)

theorem pay_bar (c : Dev nD) (r : ℕ) (d : Fin 2) : pay X c .bar r d = perm c d 0 := rfl
theorem pay_send (c : Dev nD) (d b j : Fin 2) (r : ℕ) (u : Fin 2) :
    pay X c (.send d b j) r u = slotPts d b j c lent (X b (pvn d (2 * r + j.val) c)) := rfl
theorem pay_recv (c : Dev nD) (d b j : Fin 2) (r : ℕ) (u : Fin 2) :
    pay X c (.recv d b j) r u = iprop(slotPts d b j c fullShare (X b (pvn d (2 * r + 1 - j.val + 1) c))
      ∗ reached ER (cell (pv d c) (.cred d)) (2 * r + 1 - j.val)) := rfl
theorem pay_cred (c : Dev nD) (d : Fin 2) (r : ℕ) (u : Fin 2) : pay X c (.cred d) r u = perm c d (r + 1) := rfl

/-- The talk. -/
def Rd : Rounds.Schedule (GSem nD τ sig) (Fin 2) (𝕄 F) where
  duties g r := if g.1.2 = .tc then match role g.2 with | some ρ => dut ρ r | none => ∅ else ∅
  unitless _ := False
  amount g _ _ := match role g.2 with | some ρ => amt ρ | none => 1
  payload g r u := match role g.2 with | some ρ => pay X g.1.1 ρ r u | none => iprop(emp)
  amount_pos g _ _ _ := by
    cases h : role g.2 with
    | none => exact Nat.one_pos
    | some ρ => cases ρ <;> first | exact Nat.one_pos | exact N_pos

theorem duties_cell (c : Dev nD) (ρ : Role) (r : ℕ) : (Rd X).duties (cell c ρ) r = dut ρ r := by
  dsimp only [Rd, cell]; rw [if_pos rfl, role_loc]
theorem amount_cell (c : Dev nD) (ρ : Role) (r : ℕ) (u : Fin 2) : (Rd X).amount (cell c ρ) r u = amt ρ := by
  dsimp only [Rd, cell]; rw [role_loc]
theorem payload_cell (c : Dev nD) (ρ : Role) (r : ℕ) (u : Fin 2) : (Rd X).payload (cell c ρ) r u = pay X c ρ r u := by
  dsimp only [Rd, cell]; rw [role_loc]
theorem expect_cell (c : Dev nD) (ρ : Role) (r : ℕ) : (Rd X).expect (cell c ρ) r = (dut ρ r).card * amt ρ := by
  unfold Schedule.expect Schedule.amountOf
  rw [duties_cell, Finset.sum_congr rfl (fun u _ => amount_cell X c ρ r u), Finset.sum_const, smul_eq_mul]
theorem rest_cell (c : Dev nD) (ρ : Role) (r : ℕ) :
    bigSep ((Rd X).duties (cell c ρ) r \ ∅) (fun u => (Rd X).payload (cell c ρ) r u) = bigSep (dut ρ r) (fun u => pay X c ρ r u) := by
  rw [Finset.sdiff_empty, duties_cell]
  exact BI.bigSep_congr (fun u _ => payload_cell X c ρ r u)

instance pay_storable (c : Dev nD) (ρ : Role) (r : ℕ) (u : Fin 2) : BI.Storable (upEmb : UEmb _ (𝕄 F)) (pay X c ρ r u) := by
  cases ρ <;> (unfold pay; infer_instance)
instance Rd_storable (g : GSem nD τ sig) (r : ℕ) (u : Fin 2) :
    BI.Storable (upEmb : UEmb _ (𝕄 F)) ((Rd X).payload g r u) := by
  show BI.Storable upEmb (match role g.2 with | some ρ => pay X g.1.1 ρ r u | none => iprop(emp))
  split <;> infer_instance

/-! ## Levels -/

def L (g : GSem nD τ sig) : Finset ℕ := if g.1.2 = .tc then Finset.range 40 else ∅
def lv (_ : GSem nD τ sig) (i : ℕ) : ℕ := i

/-- Every unit of O is owed to a tensor core, at an index above b. -/
def Above (b : ℕ) (O : CellTallies nD τ sig ℕ) : Prop := ∀ g i, 0 < O g i → g.1.2 = .tc ∧ b < i ∧ i < 40

theorem Above.zero (b : ℕ) : Above b 0 := fun _ _ h => absurd h (Nat.lt_irrefl 0)
theorem Above.add {b : ℕ} {O O' : CellTallies nD τ sig ℕ} (h : Above b O) (h' : Above b O') : Above b (O + O') := fun g i hi => by
  have : 0 < O g i + O' g i := hi
  rcases Nat.eq_zero_or_pos (O g i) with h0 | h0
  · exact h' g i (by omega)
  · exact h g i h0
theorem Above.tally {b : ℕ} (c : Dev nD) (ρ : Role) {i k : ℕ} (hb : b < i) (hi : i < 40) : Above b (tallyAt (cell c ρ) i k) := fun g j hj => by
  rw [tallyAt_apply] at hj
  by_cases h : g = cell c ρ ∧ j = i
  · rw [h.1, h.2]; exact ⟨rfl, hb, hi⟩
  · rw [if_neg h] at hj; exact absurd hj (Nat.lt_irrefl 0)
theorem Above.sum {b : ℕ} {T : Type} (s : Finset T) (O : T → CellTallies nD τ sig ℕ) (h : ∀ t ∈ s, Above b (O t)) : Above b (∑ t ∈ s, O t) := by
  classical
  induction s using Finset.induction_on with
  | empty => rw [Finset.sum_empty]; exact Above.zero b
  | insert a s ha ih =>
    rw [Finset.sum_insert ha]
    exact (h a (Finset.mem_insert_self _ _)).add (ih fun t ht => h t (Finset.mem_insert_of_mem ht))
theorem Above.mono {b b' : ℕ} (hb : b' ≤ b) {O : CellTallies nD τ sig ℕ} (h : Above b O) : Above b' O := fun g i hi =>
  ⟨(h g i hi).1, by have := (h g i hi).2; omega⟩

theorem mayWait (c : Dev nD) (sm : SemLoc sig) (i b : ℕ) (hib : i ≤ b) (hi : i < 40) {O : CellTallies nD τ sig ℕ} (h : Above b O) :
    (levAts L lv : sProp (𝕄 F)) ⊢ MayWait (c : Thread nD τ) sm i O :=
  MayOwe.of_cut (L := L) (lev := lv) b
    (fun p hp => by rw [Finset.mem_singleton.mp hp]; unfold L; rw [if_pos rfl]; exact Finset.mem_range.mpr hi)
    (fun g j hj => by unfold L; rw [if_pos (h g j hj).1]; exact Finset.mem_range.mpr (h g j hj).2.2)
    (fun p hp => by rw [Finset.mem_singleton.mp hp]; exact hib)
    (fun g j hj => (h g j hj).2.1)

/-! ## What is owed -/

/-- What device c owes at step s of direction d: the two copies, and the leave it gives back. -/
def copyOwe (c : Dev nD) (d : Fin 2) (s : ℕ) (b : Fin 2) : CellTallies nD τ sig ℕ :=
  tallyAt (cell (nx d c) (.recv d b (sl (s + 1)))) (2 * s + 2) N
def credOwe (c : Dev nD) (d : Fin 2) (s : ℕ) : CellTallies nD τ sig ℕ :=
  if s + 1 < S d then tallyAt (cell (pv d c) (.cred d)) (2 * s + 3) 1 else 0
def stepOwe (c : Dev nD) (d : Fin 2) (s : ℕ) : CellTallies nD τ sig ℕ := credOwe c d s + copyOwe c d s 1 + copyOwe c d s 0
/-- What is owed from step s on. -/
def owedD (c : Dev nD) (d : Fin 2) (s : ℕ) : CellTallies nD τ sig ℕ := ∑ j ∈ Finset.Ico s (S d), stepOwe c d j

theorem Ico_step {s n : ℕ} (h : s < n) : Finset.Ico s n = insert s (Finset.Ico (s + 1) n) := by
  ext j; rw [Finset.mem_insert, Finset.mem_Ico, Finset.mem_Ico]; omega
theorem Ico_fresh (s n : ℕ) : s ∉ Finset.Ico (s + 1) n := by rw [Finset.mem_Ico]; omega
theorem S_le (d : Fin 2) : S d ≤ 16 := by revert d; decide
theorem owedD_step (c : Dev nD) (d : Fin 2) {s : ℕ} (h : s < S d) : owedD c d s = stepOwe c d s + owedD c d (s + 1) := by
  unfold owedD; rw [Ico_step h, Finset.sum_insert (Ico_fresh _ _)]
theorem owedD_end (c : Dev nD) (d : Fin 2) {s : ℕ} (h : S d ≤ s) : owedD c d s = 0 := by
  unfold owedD; rw [Finset.Ico_eq_empty (by omega)]; rfl
theorem copyOwe_above (c : Dev nD) (d : Fin 2) (s : ℕ) (b : Fin 2) (hs : s < 16) : Above (2 * s + 1) (copyOwe c d s b) :=
  Above.tally _ _ (by omega) (by omega)
theorem credOwe_above (c : Dev nD) (d : Fin 2) (s : ℕ) (hs : s < 16) : Above (2 * s + 2) (credOwe c d s) := by
  unfold credOwe; split
  · exact Above.tally _ _ (by omega) (by omega)
  · exact Above.zero _
theorem owedD_above (c : Dev nD) (d : Fin 2) (s : ℕ) : Above (2 * s + 1) (owedD c d s) :=
  Above.sum _ _ fun j hj => by
    have h1 := (Finset.mem_Ico.mp hj)
    have h2 := S_le d
    exact (((credOwe_above c d j (by omega)).mono (by omega)).add ((copyOwe_above c d j 1 (by omega)).mono (by omega))).add
      ((copyOwe_above c d j 0 (by omega)).mono (by omega))

end Ring
-- ==== Proof.Steps.lean ====
/-
  The steps of the talk, each once for both directions and for keys and values: a block's copy to the neighbour,
  a wait on a cell, a signal.
-/
module

public import proofs.«01_k».proof.Proof.Protocol

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

abbrev 𝒱₀ : Variants := Variants.none

/-- The weakest precondition of device c's programs. -/
abbrev WP (c : Dev nD) {α : Type} (p : Prog (TpuEff nD τ sig (Elt F) Λ₀ .tc) α) (Q : α → sProp (𝕄 F)) : sProp (𝕄 F) :=
  wp frame (wpE (defs₀ (F := F)) 𝒱₀ (c : Thread nD τ) none) Set.univ p Q

variable (X : Fin 2 → Dev nD → Blk F)

/-! ## Slots -/

theorem read_agree {sp : Space} {s : Shape} {e : EltTy} {κ : Kind} (v : View sig κ sp s e) {f g : v.ty.Contents (Elt F)}
    (h : v.read (Elt F) f = v.read (Elt F) g) : ∀ i ∈ v.set, f i = g i := fun i hi => by
  obtain ⟨x, -, rfl⟩ := Finset.mem_map.mp hi
  exact (cast_inj _).mp (congrFun h x)

theorem slot_of (d b j : Fin 2) (c : Dev nD) (q : PosShare TreeShare) {x : Blk F} {f : Buf (Elt F) ((slotM d b j).view.loc (c : Thread nD τ))}
    (hf : (slotM d b j).view.read (Elt F) f = x) :
    ((slotM d b j).view.loc (c : Thread nD τ) ↦[(slotM d b j).view.set]{q} f) ⊢ slotPts d b j c q x := by
  unfold slotPts
  iintro H; iexists f; isplitr; · ipureintro; exact hf
  iexact H
theorem slot_landed (d b j : Fin 2) (c : Dev nD) {x w : Blk F} (g : Buf (Elt F) ((slotM d b j).view.loc (c : Thread nD τ))) (hw : w = x) :
    ((slotM d b j).view.loc (c : Thread nD τ) ↦[(slotM d b j).view.set]{fullShare} ((slotM d b j).view.write (Elt F) g w Finset.univ))
      ⊢ slotPts d b j c fullShare x :=
  slot_of d b j c fullShare ((View.read_write_univ (v := (slotM d b j).view) g w).trans hw)

/-- A slot held whole is a half to lend and a half to keep. -/
theorem slot_split (d b j : Fin 2) (c : Dev nD) (x : Blk F) :
    slotPts d b j c fullShare x ⊢ iprop(slotPts d b j c lent x ∗ slotPts d b j c kept x) := by
  unfold slotPts
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

theorem slot_join (d b j : Fin 2) (c : Dev nD) (x : Blk F) :
    iprop(slotPts d b j c lent x ∗ slotPts d b j c kept x) ⊢ slotPts d b j c fullShare x := by
  unfold slotPts
  iintro ⟨⟨%f, %hf, H1⟩, %g, %hg, H2⟩
  iexists f
  isplitr; · ipureintro; exact hf
  iapply (pointsTo_share (PosShare.mem_left_op_right fullShare)).2
  isplitl [H1]; · iexact H1
  iapply (Entails.of_eq (pointsTo_congr (read_agree _ (hg.trans hf.symm)))) $$ H2

/-! ## The invariants of all cells -/

/-- Every cell's invariant, at the names K. -/
def Inv (K : GSem nD τ sig → ℕ) : sProp (𝕄 F) :=
  bigSep (Finset.univ : Finset (Dev nD × Role)) fun p => cellInv ER (Rd X) (K (cell p.1 p.2)) (cell p.1 p.2)
instance (K : GSem nD τ sig → ℕ) : BI.Persistent (Inv X K) := by unfold Inv; infer_instance
theorem Inv_cell (K : GSem nD τ sig → ℕ) (c : Dev nD) (ρ : Role) :
    Inv X K ⊢ cellInv ER (Rd X) (K (cell c ρ)) (cell c ρ) :=
  bigSep_elim (Φ := fun p : Dev nD × Role => cellInv ER (Rd X) (K (cell p.1 p.2)) (cell p.1 p.2)) (Finset.mem_univ (c, ρ))

/-- What device c owes, whatever it has waited on. -/
def owe (c : Dev nD) (O : CellTallies nD τ sig ℕ) : sProp (𝕄 F) := iprop(∃ W, owes (c : Thread nD τ) O W)

/-- The owner's place in a cell's rounds. -/
def at' (c : Dev nD) (ρ : Role) (r : ℕ) : sProp (𝕄 F) := iprop(atPos ER (cell c ρ) r ∅ 0 ∗ reached ER (cell c ρ) r)

/-! ## A copy -/

theorem wp_send_block (K : GSem nD τ sig → ℕ) (c : Dev nD) (d b : Fin 2) (s : ℕ) (hs : s < S d)
    {src dst : Memref sig .tc .vmem S2x8x256x64 .bf16} {dev : Dev nD} {ss rs : DmaSem sig}
    {hsc : dst.view.ref.isScScratch = false} {hsrc : src.view.WordExact} {hdst : dst.view.WordExact}
    {hsem : DmaTarget.Typed .vmem (.dma rs) (.remote (Dev.tc dev : Thread nD τ) dst (.dma ss) hsc)}
    {α : Type} {k : PUnit → Prog (TpuEff nD τ sig (Elt F) Λ₀ .tc) α} {Q : α → sProp (𝕄 F)}
    (O : CellTallies nD τ sig ℕ)
    (h1 : src = slotM d b (sl s)) (h2 : dst = slotM d b (sl (s + 1))) (h3 : dev = nx d c)
    (h4 : SemLoc.dma ss = loc (.send d b (sl s))) (h5 : SemLoc.dma rs = loc (.recv d b (sl (s + 1)))) :
    iprop(Inv X K ∗ slotPts d b (sl s) c lent (X b (pvn d s c)) ∗ permB c d s b ∗ owe c (O + copyOwe c d s b)
        ∗ dutyTok ER (cell c (.send d b (sl s))) (s / 2) 0 ∗ reached ER (cell c (.send d b (sl s))) (s / 2)
        ∗ dutyTok ER (cell (nx d c) (.recv d b (sl (s + 1)))) (s / 2) 0 ∗ reached ER (cell c (.cred d)) s)
      ⊢ iprop(((cred (tallyAt (cell c (.send d b (sl s))) 0 N) ∗ owe c O) -∗ WP c (k ⟨⟩) Q)
        -∗ WP c (.op (.enqueueDma src (.remote (Dev.tc dev) dst (.dma ss) hsc) (.dma rs) hsrc hdst hsem) k) Q) := by
  subst h1 h2 h3
  have e1 : 2 * (s / 2) + (sl s).val = s := by show 2 * (s / 2) + s % 2 = s; omega
  have e2 : 2 * (s / 2) + 1 - (sl (s + 1)).val = s := by show 2 * (s / 2) + 1 - (s + 1) % 2 = s; omega
  have e3 : 2 * (s / 2) + 1 < S d + (sl (s + 1)).val := by show 2 * (s / 2) + 1 < S d + (s + 1) % 2; omega
  unfold slotPts permB slotAny slotPts owe
  iintro ⟨#HI, ⟨%f, %hf, Hs⟩, ⟨⟨%y, %g, %hg, Hd⟩, #Hr⟩, ⟨%W, HO⟩, Ht1, #Hr1, Ht2, #Hrc⟩ Hk
  ihave #HI1 := (Inv_cell X K c (.send d b (sl s))) $$ HI
  ihave #HI2 := (Inv_cell X K (nx d c) (.recv d b (sl (s + 1)))) $$ HI
  unfold cell
  rw [← h4, ← h5]
  have k1 : (((c : Dev nD) : Thread nD τ), SemLoc.dma ss) = cell c (.send d b (sl s)) := by rw [h4]; rfl
  have k2 : (((nx d c : Dev nD) : Thread nD τ), SemLoc.dma rs) = cell (nx d c) (.recv d b (sl (s + 1))) := by rw [h5]; rfl
  iapply (Rounds.wp_send_pointsTo_with 𝒱₀ ER (Rd X) (c : Thread nD τ) none (c' := ((nx d c : Dev nD) : Thread nD τ)) (src := slotM d b (sl s))
      (dst := slotM d b (sl (s + 1))) (sS := .dma ss) (sem := .dma rs) (q := lent) (fs := f) (fd := g)
      (F := reached ER (cell c (.cred d)) s)
      (κ₁ := K (cell c (.send d b (sl s)))) (κ₂ := K (cell (nx d c) (.recv d b (sl (s + 1)))))
      (r₁ := s / 2) (r₂ := s / 2) (d₁ := 0) (d₂ := 0)
      (by rw [k1, duties_cell, dut_send (by rw [e1]; exact hs)]; exact Finset.mem_singleton_self _)
      (by rw [k2, duties_cell, dut_recv e3]; exact Finset.mem_singleton_self _)
      (2 * s + 2) 0 N (amount_slot _ _ _ _) (by rw [k1, amount_cell]; rfl) (by rw [k2, amount_cell]; rfl) O
      (O₀ := O + copyOwe c d s b) (by unfold copyOwe; rw [k2]) (W := W)
      (by rw [k1, payload_cell, pay_send, e1]; exact slot_of d b (sl s) c lent hf)
      (by rw [k2, payload_cell, pay_recv, e2, pvn_succ_nx, pv_nx]; exact sep_mono_left (slot_landed d b (sl (s + 1)) (nx d c) g hf))) $$ [Hs Hd HO Ht1 Ht2]
  · isplitr; · rw [k1]; iexact HI1
    isplitr; · rw [k2]; iexact HI2
    isplitl [Hs]; · iexact Hs
    isplitl [Hd]
    · isplitl [Hd]; · iexact Hd
      iexact Hrc
    isplitl [HO]; · iexact HO
    isplitl [Ht1]; · iexact Ht1
    isplitr; · iexact Hr1
    isplitl [Ht2]; · iexact Ht2
    iexact Hr
  iintro ⟨Hc, HO⟩
  iapply Hk
  isplitl [Hc]; · iexact Hc
  iexists W; iexact HO

/-! ## A wait -/

theorem wp_wait_cell (K : GSem nD τ sig → ℕ) (c : Dev nD) (ρ : Role) (r i b : ℕ) {w : TpuEff nD τ sig (Elt F) Λ₀ .tc PUnit} {sm : SemLoc sig} {n : ℕ}
    (hw : ∀ Kp : PUnit → sProp (𝕄 F), wpE (defs₀ (F := F)) 𝒱₀ (c : Thread nD τ) none Set.univ w Kp = waitSpec (c : Thread nD τ) Set.univ sm n Kp)
    (hsm : sm = loc ρ) (hn : n = (dut ρ r).card * amt ρ) (hib : i ≤ b) (hi : i < 40)
    {O : CellTallies nD τ sig ℕ} (hO : Above b O)
    {α : Type} {k : PUnit → Prog (TpuEff nD τ sig (Elt F) Λ₀ .tc) α} {Q : α → sProp (𝕄 F)} :
    iprop(Inv X K ∗ levAts L lv ∗ cred (tallyAt (cell c ρ) i n) ∗ owe c O ∗ at' c ρ r)
      ⊢ iprop(((owe c O ∗ at' c ρ (r + 1) ∗ bigSep (dut ρ r) (fun u => pay X c ρ r u)) -∗ WP c (k ⟨⟩) Q) -∗ WP c (.op w k) Q) := by
  subst hsm
  unfold owe at'
  iintro ⟨#HI, #Hl, Hc, ⟨%W, HO⟩, Hat, -⟩ Hk
  ihave #HI1 := (Inv_cell X K c ρ) $$ HI
  iapply (Rounds.wp_wait_rest_token 𝒱₀ ER (Rd X) (c : Thread nD τ) none (κ := K (cell c ρ)) (sm := loc ρ) hw (Set.mem_univ _) i (O := O) (W := W)
      (R := r) (m := 0) (T := ∅) (by rw [Nat.zero_add]; exact hn.trans (expect_cell X c ρ r).symm)) $$ [Hc HO Hat]
  · isplitr; · iexact HI1
    isplitl [Hc]; · iexact Hc
    isplitl [HO]; · iexact HO
    isplitr; · iapply (mayWait c (loc ρ) i b hib hi hO); iexact Hl
    iexact Hat
  iintro ⟨HO, Hat, Hr, Hp⟩
  iapply Hk
  isplitl [HO]; · iexists _; iexact HO
  isplitl [Hat Hr]
  · isplitl [Hat]; · iexact Hat
    iexact Hr
  iapply (Entails.of_eq (show bigSep ((Rd X).duties ((c : Thread nD τ), loc ρ) r \ ∅) (fun u => (Rd X).payload ((c : Thread nD τ), loc ρ) r u)
    = bigSep (dut ρ r) (fun u => pay X c ρ r u) from rest_cell X c ρ r)) $$ Hp

/-! ## A signal -/

theorem wp_signal_cell (K : GSem nD τ sig → ℕ) (c c' : Dev nD) (ρ : Role) (r i : ℕ) (u : Fin 2) {dev : Dev nD} {sem : Sem sig}
    (hdev : dev = c') (hsm : SemLoc.reg sem = loc ρ) (hu : u ∈ dut ρ r) (hamt : amt ρ = 1) (O : CellTallies nD τ sig ℕ)
    {α : Type} {k : PUnit → Prog (TpuEff nD τ sig (Elt F) Λ₀ .tc) α} {Q : α → sProp (𝕄 F)} :
    iprop(Inv X K ∗ owe c (O + tallyAt (cell c' ρ) i 1) ∗ dutyTok ER (cell c' ρ) r u ∗ pay X c' ρ r u ∗ reached ER (cell c' ρ) r)
      ⊢ iprop((owe c O -∗ WP c (k ⟨⟩) Q) -∗ WP c (.op (.semSignal (Dev.tc dev) sem 1) k) Q) := by
  subst hdev
  have k1 : (((dev : Dev nD) : Thread nD τ), SemLoc.reg sem) = cell dev ρ := by rw [hsm]; rfl
  unfold owe
  iintro ⟨#HI, ⟨%W, HO⟩, Ht, Hp, #Hr⟩ Hk
  ihave #HI1 := (Inv_cell X K dev ρ) $$ HI
  iapply (Rounds.wp_signal 𝒱₀ ER (Rd X) (c : Thread nD τ) none (dst := (dev : Thread nD τ)) (sem := sem) (r := r) (d := u) (κ := K (cell dev ρ)) (k' := 1)
      (by rw [k1, duties_cell]; exact hu) (by rw [k1, amount_cell]; exact hamt) i O (by rw [k1])) $$ [HO Ht Hp]
  · rw [k1, payload_cell]
    isplitr; · iexact HI1
    isplitl [HO]; · iexact HO
    isplitl [Ht]; · iexact Ht
    isplitl [Hp]; · iexact Hp
    iexact Hr
  iintro HO
  iapply Hk
  iexists W; iexact HO

end Ring
-- ==== Proof.Heads.lean ====
/-
  The loads and the store of one head's accumulation, each once: what is loaded of the queries, of a slot of keys or
  values and of the accumulators, and the accumulators after the store.
-/
module

public import proofs.«01_k».proof.Proof.Steps

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

/-! ## One head of a block -/

theorem q_inb (b h : ℕ) : ∀ i, (![b % 2, h % 8, 0, 0] : Fin 4 → ℕ) i + S1x1x256x64.size i ≤ S2x8x256x64.size i := by
  intro i; fin_cases i <;> simp <;> omega
theorem a_inb (b h : ℕ) : ∀ i, (![b % 2, h % 8, 0, 0] : Fin 4 → ℕ) i + S1x1x256x128.size i ≤ S2x8x256x128.size i := by
  intro i; fin_cases i <;> simp <;> omega
theorem b_inb (b h : ℕ) : ∀ i, (![0, b % 2, h % 8, 0, 0] : Fin 5 → ℕ) i + S1x1x1x256x64.size i ≤ S1x2x8x256x64.size i := by
  intro i; fin_cases i <;> simp <;> omega

/-- Head (b, h) of the queries. -/
def pickQ {E : Type} (x : S2x8x256x64.Idx → E) (b h : ℕ) : S1x1x256x64.Idx → E :=
  fun i => x ((Rect.unit (s := S2x8x256x64) ![b % 2, h % 8, 0, 0] S1x1x256x64.size (q_inb b h)).emb i)
/-- Head (b, h) of the accumulators. -/
def pickA {E : Type} (x : S2x8x256x128.Idx → E) (b h : ℕ) : S1x1x256x128.Idx → E :=
  fun i => x ((Rect.unit (s := S2x8x256x128) ![b % 2, h % 8, 0, 0] S1x1x256x128.size (a_inb b h)).emb i)
/-- Head (b, h) of a block of keys or values, as it is read of the buffer of two slots. -/
def pickB {E : Type} (x : S2x8x256x64.Idx → E) (b h : ℕ) : S1x1x1x256x64.Idx → E :=
  fun i => x ((Shape.reshapeEquiv squeezes_S1x2x8x256x64_S2x8x256x64.numel_eq).symm
    ((Rect.unit (s := S1x2x8x256x64) ![0, b % 2, h % 8, 0, 0] S1x1x1x256x64.size (b_inb b h)).emb i))

/-- One head's accumulation: the weights of the scores against the block's values and ones, added. -/
abbrev headV (ones : FVec F S256x64 .bf16) (Q : Blk F) (xk xv : Blk F) (A : ℕ → ℕ → Vec F S1x1x256x128 .f32) (b h : ℕ) : Vec F S1x1x256x128 .f32 :=
  Gen.k0_pay2 ones (pickQ Q b h) (pickB xk b h) (pickB xv b h) (A b h)

/-- The accumulators with the first n heads new. -/
def mix (n : ℕ) (A A' : ℕ → ℕ → Vec F S1x1x256x128 .f32) (b h : ℕ) : Vec F S1x1x256x128 .f32 := if 8 * b + h < n then A' b h else A b h

/-! ## What is held -/

def qbPts (c : Dev nD) (Q : Blk F) : sProp (𝕄 F) :=
  iprop(∃ f : Buf (Elt F) ((Memref.whole cc0_scratch0).view.loc (c : Thread nD τ)), ⌜(Memref.whole cc0_scratch0).view.read (Elt F) f = Q⌝
    ∗ ((Memref.whole cc0_scratch0).view.loc (c : Thread nD τ) ↦{fullShare} f))
def accPts (c : Dev nD) (A : ℕ → ℕ → Vec F S1x1x256x128 .f32) : sProp (𝕄 F) :=
  iprop(∃ f : Buf (Elt F) ((Memref.whole cc0_scratch5).view.loc (c : Thread nD τ)),
    ⌜∀ b h, b < 2 → h < 8 → pickA ((Memref.whole cc0_scratch5).view.read (Elt F) f) b h = A b h⌝
    ∗ ((Memref.whole cc0_scratch5).view.loc (c : Thread nD τ) ↦{fullShare} f))

theorem accPts_congr (c : Dev nD) {A A' : ℕ → ℕ → Vec F S1x1x256x128 .f32} (h : ∀ b h, b < 2 → h < 8 → A b h = A' b h) :
    accPts c A ⊢ accPts c A' := by
  unfold accPts
  iintro ⟨%f, %hf, H⟩
  iexists f; isplitr
  · ipureintro; exact fun b h' hb hh => (hf b h' hb hh).trans (h b h' hb hh)
  iexact H
theorem mix_zero (c : Dev nD) (A A' : ℕ → ℕ → Vec F S1x1x256x128 .f32) : accPts c A ⊢ accPts c (mix 0 A A') :=
  accPts_congr c fun b h _ _ => (if_neg (Nat.not_lt_zero _)).symm
theorem mix_all (c : Dev nD) (A A' : ℕ → ℕ → Vec F S1x1x256x128 .f32) : accPts c (mix 16 A A') ⊢ accPts c A' :=
  accPts_congr c fun b h hb hh => if_pos (by omega)

/-- What the heads of one block are run at: n heads done. -/
def HS (c : Dev nD) (d j : Fin 2) (q : PosShare TreeShare) (ones : FVec F S256x64 .bf16) (Q xk xv : Blk F)
    (A : ℕ → ℕ → Vec F S1x1x256x128 .f32) (n : ℕ) (R : sProp (𝕄 F)) : sProp (𝕄 F) :=
  iprop(qbPts c Q ∗ slotPts d 0 j c q xk ∗ slotPts d 1 j c q xv ∗ accPts c (mix n A (headV ones Q xk xv A)) ∗ R)

variable {c : Dev nD} {d j : Fin 2} {q : PosShare TreeShare} {ones : FVec F S256x64 .bf16} {Q xk xv : Blk F}
  {A : ℕ → ℕ → Vec F S1x1x256x128 .f32} {n : ℕ} {R : sProp (𝕄 F)} {α : Type} {Qp : α → sProp (𝕄 F)}

theorem readQ (f : Buf (Elt F) ((Memref.whole cc0_scratch0).view.loc (c : Thread nD τ))) {b h : ℕ} (hb : b < 2) (hh : h < 8)
    {inb : ∀ i, (![b, h, 0, 0] : Fin 4 → ℕ) i + S1x1x256x64.size i ≤ S2x8x256x64.size i} :
    (Memref.whole cc0_scratch0).view.readAt (Elt F) (Rect.unit (s := S2x8x256x64) ![b, h, 0, 0] S1x1x256x64.size inb).toLoadRect f
      = pickQ ((Memref.whole cc0_scratch0).view.read (Elt F) f) b h := by
  have e : (![b, h, 0, 0] : Fin 4 → ℕ) = ![b % 2, h % 8, 0, 0] := by rw [Nat.mod_eq_of_lt hb, Nat.mod_eq_of_lt hh]
  unfold pickQ
  revert inb; rw [e]; intro inb; rfl

theorem readA (f : Buf (Elt F) ((Memref.whole cc0_scratch5).view.loc (c : Thread nD τ))) {b h : ℕ} (hb : b < 2) (hh : h < 8)
    {inb : ∀ i, (![b, h, 0, 0] : Fin 4 → ℕ) i + S1x1x256x128.size i ≤ S2x8x256x128.size i} :
    (Memref.whole cc0_scratch5).view.readAt (Elt F) (Rect.unit (s := S2x8x256x128) ![b, h, 0, 0] S1x1x256x128.size inb).toLoadRect f
      = pickA ((Memref.whole cc0_scratch5).view.read (Elt F) f) b h := by
  have e : (![b, h, 0, 0] : Fin 4 → ℕ) = ![b % 2, h % 8, 0, 0] := by rw [Nat.mod_eq_of_lt hb, Nat.mod_eq_of_lt hh]
  unfold pickA
  revert inb; rw [e]; intro inb; rfl

/-- The elements of a head in the buffer of two slots are the slot's elements of the head. -/
theorem slot_emb (M : Memref sig .tc .vmem S2x2x8x256x64 .bf16) (j : Fin 2) {b h : ℕ} (hb : b < 2) (hh : h < 8)
    {inb : ∀ i, (![j.val, b, h, 0, 0] : Fin 5 → ℕ) i + S1x1x1x256x64.size i ≤ S2x2x8x256x64.size i} (i : S1x1x1x256x64.Idx) :
    M.view.emb ((Rect.unit (s := S2x2x8x256x64) ![j.val, b, h, 0, 0] S1x1x1x256x64.size inb).emb i)
      = (slotOf M j).view.emb ((Shape.reshapeEquiv squeezes_S1x2x8x256x64_S2x8x256x64.numel_eq).symm
          ((Rect.unit (s := S1x2x8x256x64) ![0, b % 2, h % 8, 0, 0] S1x1x1x256x64.size (b_inb b h)).emb i)) := by
  show _ = M.view.emb ((Rect.unit (s := S2x2x8x256x64) ![j.val, 0, 0, 0, 0] S1x2x8x256x64.size (slot_inb j)).emb
    (Shape.reshapeEquiv squeezes_S1x2x8x256x64_S2x8x256x64.numel_eq ((Shape.reshapeEquiv squeezes_S1x2x8x256x64_S2x8x256x64.numel_eq).symm _)))
  rw [Equiv.apply_symm_apply]
  congr 1
  funext a
  apply Fin.ext
  rw [Rect.emb_apply, Rect.emb_apply, Rect.emb_apply]
  fin_cases a <;> simp [Rect.unit, Nat.mod_eq_of_lt hb, Nat.mod_eq_of_lt hh]

theorem readB (d b' j : Fin 2) (f : Buf (Elt F) ((slotM d b' j).view.loc (c : Thread nD τ))) {b h : ℕ} (hb : b < 2) (hh : h < 8)
    {inb : ∀ i, (![j.val, b, h, 0, 0] : Fin 5 → ℕ) i + S1x1x1x256x64.size i ≤ S2x2x8x256x64.size i} :
    (buf d b').view.readAt (Elt F) (Rect.unit (s := S2x2x8x256x64) ![j.val, b, h, 0, 0] S1x1x1x256x64.size inb).toLoadRect f
      = pickB ((slotM d b' j).view.read (Elt F) f) b h := by
  funext i
  unfold pickB
  rw [View.readAt_apply, View.read_apply, View.read_apply]
  have := slot_emb (buf d b') j hb hh (inb := inb) i
  show cast _ (f ((buf d b').view.emb _)) = _
  rw [show (buf d b').view.emb ((Rect.unit (s := S2x2x8x256x64) ![j.val, b, h, 0, 0] S1x1x1x256x64.size inb).toLoadRect.idx i) = _ from this]

theorem slot_setOn (M : Memref sig .tc .vmem S2x2x8x256x64 .bf16) (j : Fin 2) {b h : ℕ} (hb : b < 2) (hh : h < 8)
    {inb : ∀ i, (![j.val, b, h, 0, 0] : Fin 5 → ℕ) i + S1x1x1x256x64.size i ≤ S2x2x8x256x64.size i} :
    M.view.setOn (Rect.unit (s := S2x2x8x256x64) ![j.val, b, h, 0, 0] S1x1x1x256x64.size inb).toLoadRect.set ⊆ (slotOf M j).view.set := by
  intro x hx
  obtain ⟨y, hy, rfl⟩ := Finset.mem_map.mp hx
  obtain ⟨i, rfl⟩ := LoadRect.exists_idx_of_mem _ hy
  rw [show M.view.emb ((Rect.unit (s := S2x2x8x256x64) ![j.val, b, h, 0, 0] S1x1x1x256x64.size inb).toLoadRect.idx i) = _ from slot_emb M j hb hh (inb := inb) i]
  exact View.emb_mem_set _ _

/-! ## The rules -/

theorem load_q {b h : ℕ} (hb : b < 2) (hh : h < 8) {inb : ∀ i, (![b, h, 0, 0] : Fin 4 → ℕ) i + S1x1x256x64.size i ≤ S2x8x256x64.size i}
    {hl : (Memref.whole cc0_scratch0).view.LoadsAt (Rect.unit (s := S2x8x256x64) ![b, h, 0, 0] S1x1x256x64.size inb).toLoadRect}
    {k : Vec F S1x1x256x64 .bf16 → Prog (TpuEff nD τ sig (Elt F) Λ₀ .tc) α}
    (hk : HS c d j q ones Q xk xv A n R ⊢ WP c (k (pickQ Q b h)) Qp) :
    HS c d j q ones Q xk xv A n R
      ⊢ WP c (.op (.load (Memref.whole cc0_scratch0) (Rect.unit (s := S2x8x256x64) ![b, h, 0, 0] S1x1x256x64.size inb).toLoadRect hl) k) Qp := by
  unfold HS qbPts at *
  iintro ⟨⟨%f, %hf, Hq⟩, Hr⟩
  iapply (wp_load 𝒱₀ (c : Thread nD τ) none Set.univ (Finset.subset_univ _)) $$ Hq
  iintro Hq
  rw [readQ (c := c) f hb hh, hf]
  iapply hk
  isplitl [Hq]
  · iexists f; isplitr; · ipureintro; exact hf
    iexact Hq
  iexact Hr

theorem load_k {v b h : ℕ} {off : Fin 5 → ℕ} (hb : b < 2) (hh : h < 8) (hoff : off = ![v, b, h, 0, 0]) (hv : v = j.val)
    {inb : ∀ i, off i + S1x1x1x256x64.size i ≤ S2x2x8x256x64.size i} {M : Memref sig .tc .vmem S2x2x8x256x64 .bf16} (hM : M = buf d 0)
    {hl : M.view.LoadsAt (Rect.unit (s := S2x2x8x256x64) off S1x1x1x256x64.size inb).toLoadRect}
    {k : Vec F S1x1x1x256x64 .bf16 → Prog (TpuEff nD τ sig (Elt F) Λ₀ .tc) α}
    (hk : HS c d j q ones Q xk xv A n R ⊢ WP c (k (pickB xk b h)) Qp) :
    HS c d j q ones Q xk xv A n R
      ⊢ WP c (.op (.load M (Rect.unit (s := S2x2x8x256x64) off S1x1x1x256x64.size inb).toLoadRect hl) k) Qp := by
  subst hv hoff hM
  unfold HS slotPts at *
  iintro ⟨Hq, ⟨%f, %hf, Hs⟩, Hr⟩
  iapply (wp_load 𝒱₀ (c : Thread nD τ) none Set.univ (m := buf d 0) (slot_setOn (buf d 0) j hb hh)) $$ Hs
  iintro Hs
  rw [readB (c := c) d 0 j f hb hh, hf]
  iapply hk
  isplitl [Hq]; · iexact Hq
  isplitl [Hs]
  · iexists f; isplitr; · ipureintro; exact hf
    iexact Hs
  iexact Hr

theorem load_v {v b h : ℕ} {off : Fin 5 → ℕ} (hb : b < 2) (hh : h < 8) (hoff : off = ![v, b, h, 0, 0]) (hv : v = j.val)
    {inb : ∀ i, off i + S1x1x1x256x64.size i ≤ S2x2x8x256x64.size i} {M : Memref sig .tc .vmem S2x2x8x256x64 .bf16} (hM : M = buf d 1)
    {hl : M.view.LoadsAt (Rect.unit (s := S2x2x8x256x64) off S1x1x1x256x64.size inb).toLoadRect}
    {k : Vec F S1x1x1x256x64 .bf16 → Prog (TpuEff nD τ sig (Elt F) Λ₀ .tc) α}
    (hk : HS c d j q ones Q xk xv A n R ⊢ WP c (k (pickB xv b h)) Qp) :
    HS c d j q ones Q xk xv A n R
      ⊢ WP c (.op (.load M (Rect.unit (s := S2x2x8x256x64) off S1x1x1x256x64.size inb).toLoadRect hl) k) Qp := by
  subst hv hoff hM
  unfold HS slotPts at *
  iintro ⟨Hq, Hk, ⟨%f, %hf, Hs⟩, Hr⟩
  iapply (wp_load 𝒱₀ (c : Thread nD τ) none Set.univ (m := buf d 1) (slot_setOn (buf d 1) j hb hh)) $$ Hs
  iintro Hs
  rw [readB (c := c) d 1 j f hb hh, hf]
  iapply hk
  isplitl [Hq]; · iexact Hq
  isplitl [Hk]; · iexact Hk
  isplitl [Hs]
  · iexists f; isplitr; · ipureintro; exact hf
    iexact Hs
  iexact Hr

theorem load_a {b h : ℕ} (hb : b < 2) (hh : h < 8) (hn : n = 8 * b + h) {inb : ∀ i, (![b, h, 0, 0] : Fin 4 → ℕ) i + S1x1x256x128.size i ≤ S2x8x256x128.size i}
    {hl : (Memref.whole cc0_scratch5).view.LoadsAt (Rect.unit (s := S2x8x256x128) ![b, h, 0, 0] S1x1x256x128.size inb).toLoadRect}
    {k : Vec F S1x1x256x128 .f32 → Prog (TpuEff nD τ sig (Elt F) Λ₀ .tc) α}
    (hk : HS c d j q ones Q xk xv A n R ⊢ WP c (k (A b h)) Qp) :
    HS c d j q ones Q xk xv A n R
      ⊢ WP c (.op (.load (Memref.whole cc0_scratch5) (Rect.unit (s := S2x8x256x128) ![b, h, 0, 0] S1x1x256x128.size inb).toLoadRect hl) k) Qp := by
  unfold HS accPts at *
  iintro ⟨Hq, Hk, Hv, ⟨%f, %hf, Ha⟩, Hr⟩
  iapply (wp_load 𝒱₀ (c : Thread nD τ) none Set.univ (Finset.subset_univ _)) $$ Ha
  iintro Ha
  rw [readA (c := c) f hb hh, hf b h hb hh, show mix n A (headV ones Q xk xv A) b h = A b h from if_neg (by omega)]
  iapply hk
  isplitl [Hq]; · iexact Hq
  isplitl [Hk]; · iexact Hk
  isplitl [Hv]; · iexact Hv
  isplitl [Ha]
  · iexists f; isplitr; · ipureintro; exact hf
    iexact Ha
  iexact Hr

/-- The accumulators after one head's store. -/
theorem write_pick (f : Buf (Elt F) ((Memref.whole cc0_scratch5).view.loc (c : Thread nD τ))) {b h : ℕ} (hb : b < 2) (hh : h < 8)
    {inb : ∀ i, (![b, h, 0, 0] : Fin 4 → ℕ) i + S1x1x256x128.size i ≤ S2x8x256x128.size i} (w : Vec F S1x1x256x128 .f32)
    (b' h' : ℕ) (hb' : b' < 2) (hh' : h' < 8) :
    pickA ((Memref.whole cc0_scratch5).view.read (Elt F) (((Memref.whole cc0_scratch5).access (Rect.unit (s := S2x8x256x128) ![b, h, 0, 0] S1x1x256x128.size inb)).write (Elt F) f w Finset.univ)) b' h'
      = if b' = b ∧ h' = h then w else pickA ((Memref.whole cc0_scratch5).view.read (Elt F) f) b' h' := by
  have e : (![b, h, 0, 0] : Fin 4 → ℕ) = ![b % 2, h % 8, 0, 0] := by rw [Nat.mod_eq_of_lt hb, Nat.mod_eq_of_lt hh]
  revert inb; rw [e]; intro inb
  split
  next hbh =>
    obtain ⟨rfl, rfl⟩ := hbh
    exact View.read_write_univ (v := (Memref.whole cc0_scratch5).access (Rect.unit (s := S2x8x256x128) ![b' % 2, h' % 8, 0, 0] S1x1x256x128.size inb)) f w
  next hbh =>
    unfold pickA
    funext i
    rw [View.read_apply, View.read_apply, View.write_of_not_mem]
    intro hm
    obtain ⟨x, -, hx⟩ := Finset.mem_map.mp hm
    have hx' : (Rect.unit (s := S2x8x256x128) ![b % 2, h % 8, 0, 0] S1x1x256x128.size inb).emb x
        = (Rect.unit (s := S2x8x256x128) ![b' % 2, h' % 8, 0, 0] S1x1x256x128.size (a_inb b' h')).emb i := hx
    have h0 := congrArg (fun z : S2x8x256x128.Idx => (z 0).val) hx'
    have h1 := congrArg (fun z : S2x8x256x128.Idx => (z 1).val) hx'
    have x0 : (x 0).val < 1 := (x 0).isLt
    have x1 : (x 1).val < 1 := (x 1).isLt
    have i0 : (i 0).val < 1 := (i 0).isLt
    have i1 : (i 1).val < 1 := (i 1).isLt
    have h0' : b % 2 + 1 * (x 0).val = b' % 2 + 1 * (i 0).val := h0
    have h1' : h % 8 + 1 * (x 1).val = h' % 8 + 1 * (i 1).val := h1
    exact hbh ⟨by omega, by omega⟩

theorem store_a {b h : ℕ} (hb : b < 2) (hh : h < 8) (hn : n = 8 * b + h) {inb : ∀ i, (![b, h, 0, 0] : Fin 4 → ℕ) i + S1x1x256x128.size i ≤ S2x8x256x128.size i}
    {w : Vec F S1x1x256x128 .f32} (hw : w = headV ones Q xk xv A b h)
    {hx : ((Memref.whole cc0_scratch5).access (Rect.unit (s := S2x8x256x128) ![b, h, 0, 0] S1x1x256x128.size inb)).Stores Finset.univ}
    {hm : (Finset.univ : Finset (Rect.unit (s := S2x8x256x128) ![b, h, 0, 0] S1x1x256x128.size inb).shape.Idx) = Finset.univ
      ∨ ∀ a, (Rect.unit (s := S2x8x256x128) ![b, h, 0, 0] S1x1x256x128.size inb).stride a = 1}
    {k : PUnit → Prog (TpuEff nD τ sig (Elt F) Λ₀ .tc) α}
    (hk : HS c d j q ones Q xk xv A (n + 1) R ⊢ WP c (k ⟨⟩) Qp) :
    HS c d j q ones Q xk xv A n R
      ⊢ WP c (.op (.store (Memref.whole cc0_scratch5) (Rect.unit (s := S2x8x256x128) ![b, h, 0, 0] S1x1x256x128.size inb) w Finset.univ hx hm) k) Qp := by
  subst hw hn
  unfold HS accPts at *
  iintro ⟨Hq, Hk, Hv, ⟨%f, %hf, Ha⟩, Hr⟩
  iapply (wp_store 𝒱₀ (c : Thread nD τ) none Set.univ (m := Memref.whole cc0_scratch5)
    (r := Rect.unit (s := S2x8x256x128) ![b, h, 0, 0] S1x1x256x128.size inb) (f := f) (Finset.subset_univ _)) $$ Ha
  iintro Ha
  iapply hk
  isplitl [Hq]; · iexact Hq
  isplitl [Hk]; · iexact Hk
  isplitl [Hv]; · iexact Hv
  isplitl [Ha]
  · iexists _; isplitr
    swap; · iexact Ha
    ipureintro
    intro b' h' hb' hh'
    rw [write_pick (c := c) f hb hh _ b' h' hb' hh', hf b' h' hb' hh']
    unfold mix
    by_cases hbh : b' = b ∧ h' = h
    · obtain ⟨rfl, rfl⟩ := hbh
      rw [if_pos ⟨rfl, rfl⟩, if_pos (by omega)]
    · rw [if_neg hbh]
      have : (8 * b' + h' < 8 * b + h) ↔ (8 * b' + h' < 8 * b + h + 1) := by omega
      simp only [this]
  iexact Hr

end Ring
-- ==== Proof.Trip.lean ====
/-
  One trip of the ring, piece by piece: what a device holds before each step of a direction, and the rules for its
  copies, waits and signals in those terms.
-/
module

public import proofs.«01_k».proof.Proof.Heads

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] (X : Fin 2 → Dev nD → Blk F)

theorem two_le_S (d : Fin 2) : 2 ≤ S d := by revert d; decide
theorem S_one : S 1 = 15 := rfl
theorem S_zero : S 0 = 16 := rfl

/-! ## Tokens of a step -/

/-- The tokens of one copy of step s. -/
def copyKit (c : Dev nD) (d : Fin 2) (s : ℕ) (b : Fin 2) : sProp (𝕄 F) :=
  iprop(dutyTok ER (cell c (.send d b (sl s))) (s / 2) 0 ∗ dutyTok ER (cell (nx d c) (.recv d b (sl (s + 1)))) (s / 2) 0
    ∗ cred (tallyAt (cell c (.recv d b (sl (s + 1)))) (2 * s + 2) N))
/-- The token of the leave given back at the end of step s. -/
def sigKit (c : Dev nD) (d : Fin 2) (s : ℕ) : sProp (𝕄 F) :=
  if s + 1 < S d then dutyTok ER (cell (pv d c) (.cred d)) s 0 else iprop(emp)
/-- The token of the leave awaited at the start of step s. -/
def waitKit (c : Dev nD) (d : Fin 2) (s : ℕ) : sProp (𝕄 F) :=
  if 1 ≤ s then cred (tallyAt (cell c (.cred d)) (2 * s + 1) 1) else iprop(emp)
/-- The tokens of step s. -/
def kit (c : Dev nD) (d : Fin 2) (s : ℕ) : sProp (𝕄 F) :=
  iprop(copyKit c d s 0 ∗ copyKit c d s 1 ∗ sigKit c d s ∗ waitKit c d s)
/-- The tokens from step s on. -/
def kits (c : Dev nD) (d : Fin 2) (s : ℕ) : sProp (𝕄 F) := bigSep (Finset.Ico s (S d)) (kit c d)

theorem kits_step (c : Dev nD) (d : Fin 2) {s : ℕ} (h : s < S d) : (kits c d s : sProp (𝕄 F)) ⊢ iprop(kit c d s ∗ kits c d (s + 1)) := by
  unfold kits; rw [Ico_step h]; exact Entails.of_eq (bigSep_insert (Ico_fresh _ _))

/-! ## A direction's state -/

/-- The places of the four cells of one buffer before step s. -/
def marks (c : Dev nD) (d : Fin 2) (s : ℕ) (b : Fin 2) : sProp (𝕄 F) :=
  iprop(at' c (.send d b (sl s)) (s / 2) ∗ at' c (.recv d b (sl (s + 1))) (s / 2)
    ∗ at' c (.send d b (sl (s + 1))) ((s + 1) / 2) ∗ at' c (.recv d b (sl s)) ((s + 1) / 2))
/-- The slot step s reads. -/
abbrev blk (c : Dev nD) (d : Fin 2) (s : ℕ) (b : Fin 2) (q : PosShare TreeShare) : sProp (𝕄 F) :=
  slotPts d b (sl s) c q (X b (pvn d s c))
/-- A copy under way. -/
def flight (c : Dev nD) (d : Fin 2) (s : ℕ) (b : Fin 2) : sProp (𝕄 F) :=
  iprop(marks c d s b ∗ cred (tallyAt (cell c (.send d b (sl s))) 0 N) ∗ cred (tallyAt (cell c (.recv d b (sl (s + 1)))) (2 * s + 2) N))
/-- A copy sent off: its own half is back. -/
def flown (c : Dev nD) (d : Fin 2) (s : ℕ) (b : Fin 2) : sProp (𝕄 F) :=
  iprop(at' c (.send d b (sl s)) (s / 2 + 1) ∗ at' c (.recv d b (sl (s + 1))) (s / 2)
    ∗ at' c (.send d b (sl (s + 1))) ((s + 1) / 2) ∗ at' c (.recv d b (sl s)) ((s + 1) / 2)
    ∗ cred (tallyAt (cell c (.recv d b (sl (s + 1)))) (2 * s + 2) N))
/-- What stands beside the slots and marks before step s: the leave cell's place, the tokens, and at the start the leave,
    at the end the other slots. -/
def rest (c : Dev nD) (d : Fin 2) (s : ℕ) : sProp (𝕄 F) :=
  iprop(at' c (.cred d) (s - 1) ∗ kits c d s ∗ (if s = 0 then perm c d 0 else iprop(emp))
    ∗ (if s = S d then iprop(slotAny d 0 (sl (s + 1)) c ∗ slotAny d 1 (sl (s + 1)) c) else iprop(emp)))
/-- Before step s, the slots aside. -/
def ring (c : Dev nD) (d : Fin 2) (s : ℕ) : sProp (𝕄 F) := iprop(marks c d s 0 ∗ marks c d s 1 ∗ rest c d s)

/-- Before the copies of step s: leave held. -/
def ready (c : Dev nD) (d : Fin 2) (s : ℕ) : sProp (𝕄 F) :=
  iprop(marks c d s 0 ∗ marks c d s 1 ∗ copyKit c d s 0 ∗ copyKit c d s 1 ∗ sigKit c d s ∗ kits c d (s + 1) ∗ at' c (.cred d) s ∗ perm c d s)

variable {X}

theorem ready_first (c : Dev nD) (d : Fin 2) : (ring c d 0 : sProp (𝕄 F)) ⊢ ready c d 0 := by
  have h0 : 0 < S d := by have := two_le_S d; omega
  unfold ring rest ready
  rw [if_pos rfl, if_neg (by omega)]
  iintro ⟨H0, H1, Ha, Hk, Hp, -⟩
  ihave Hk := (kits_step c d h0) $$ Hk
  unfold kit
  icases Hk with ⟨⟨Hc0, Hc1, Hs, -⟩, Hk⟩
  isplitl [H0]; · iexact H0
  isplitl [H1]; · iexact H1
  isplitl [Hc0]; · iexact Hc0
  isplitl [Hc1]; · iexact Hc1
  isplitl [Hs]; · iexact Hs
  isplitl [Hk]; · iexact Hk
  isplitl [Ha]; · iexact Ha
  iexact Hp

variable {α : Type} {Q : α → sProp (𝕄 F)}

/-- The wait for leave. -/
theorem step_leave (K : GSem nD τ sig → ℕ) (c : Dev nD) (d : Fin 2) {s : ℕ} (h0 : 1 ≤ s) (hs : s < S d) {w : TpuEff nD τ sig (Elt F) Λ₀ .tc PUnit} {sm : SemLoc sig} {n : ℕ}
    (hw : ∀ Kp : PUnit → sProp (𝕄 F), wpE (defs₀ (F := F)) 𝒱₀ (c : Thread nD τ) none Set.univ w Kp = waitSpec (c : Thread nD τ) Set.univ sm n Kp)
    (hsm : sm = loc (.cred d)) (hn : n = 1) {O : CellTallies nD τ sig ℕ} (hO : Above (2 * s + 1) O) {k : PUnit → Prog (TpuEff nD τ sig (Elt F) Λ₀ .tc) α} :
    iprop(Inv X K ∗ levAts L lv ∗ ring c d s ∗ owe c O) ⊢ iprop(((ready c d s ∗ owe c O) -∗ WP c (k ⟨⟩) Q) -∗ WP c (.op w k) Q) := by
  have h16 := S_le d
  have hd : dut (.cred d) (s - 1) = {0} := dut_cred (by omega)
  subst hn
  unfold ring rest ready
  rw [if_neg (show ¬s = 0 by omega), if_neg (by omega)]
  iintro ⟨#HI, #Hl, ⟨H0, H1, Ha, Hk, -, -⟩, HO⟩ Hc
  ihave Hk := (kits_step c d hs) $$ Hk
  unfold kit waitKit
  rw [if_pos h0]
  icases Hk with ⟨⟨Hc0, Hc1, Hs, Hw⟩, Hk⟩
  iapply (wp_wait_cell X K c (.cred d) (s - 1) (2 * s + 1) (2 * s + 1) hw hsm (by rw [hd]; rfl) le_rfl (by omega) hO) $$ [Hw HO Ha]
  · isplitr; · iexact HI
    isplitr; · iexact Hl
    isplitl [Hw]; · iexact Hw
    isplitl [HO]; · iexact HO
    iexact Ha
  iintro ⟨HO, Ha, Hp⟩
  ihave Hp := (Entails.of_eq (show bigSep (dut (.cred d) (s - 1)) (fun u => pay X c (.cred d) (s - 1) u) = perm c d s by
    rw [hd, bigSep_singleton, pay_cred, show s - 1 + 1 = s by omega])) $$ Hp
  iapply Hc
  isplitr [HO]
  · isplitl [H0]; · iexact H0
    isplitl [H1]; · iexact H1
    isplitl [Hc0]; · iexact Hc0
    isplitl [Hc1]; · iexact Hc1
    isplitl [Hs]; · iexact Hs
    isplitl [Hk]; · iexact Hk
    isplitl [Ha]
    · iapply (Entails.of_eq (show (at' c (.cred d) (s - 1 + 1) : sProp (𝕄 F)) = at' c (.cred d) s by rw [show s - 1 + 1 = s by omega])) $$ Ha
    iexact Hp
  iexact HO

/-- A copy sent. -/
theorem step_send (K : GSem nD τ sig → ℕ) (c : Dev nD) (d b : Fin 2) {s : ℕ} (hs : s < S d)
    {src dst : Memref sig .tc .vmem S2x8x256x64 .bf16} {dev : Dev nD} {ss rs : DmaSem sig}
    {hsc : dst.view.ref.isScScratch = false} {hsrc : src.view.WordExact} {hdst : dst.view.WordExact}
    {hsem : DmaTarget.Typed .vmem (.dma rs) (.remote (Dev.tc dev : Thread nD τ) dst (.dma ss) hsc)}
    {k : PUnit → Prog (TpuEff nD τ sig (Elt F) Λ₀ .tc) α} (O : CellTallies nD τ sig ℕ)
    (h1 : src = slotM d b (sl s)) (h2 : dst = slotM d b (sl (s + 1))) (h3 : dev = nx d c)
    (h4 : SemLoc.dma ss = loc (.send d b (sl s))) (h5 : SemLoc.dma rs = loc (.recv d b (sl (s + 1)))) :
    iprop(Inv X K ∗ blk X c d s b fullShare ∗ marks c d s b ∗ copyKit c d s b ∗ permB c d s b ∗ owe c (O + copyOwe c d s b) ∗ reached ER (cell c (.cred d)) s)
      ⊢ iprop(((blk X c d s b kept ∗ flight c d s b ∗ owe c O) -∗ WP c (k ⟨⟩) Q)
        -∗ WP c (.op (.enqueueDma src (.remote (Dev.tc dev) dst (.dma ss) hsc) (.dma rs) hsrc hdst hsem) k) Q) := by
  unfold marks copyKit flight marks
  iintro ⟨#HI, Hb, ⟨Hm1, Hm2⟩, ⟨Ht1, Ht2, Hcr⟩, Hp, HO, #Hr⟩ Hk
  ihave Hb := (slot_split d b (sl s) c (X b (pvn d s c))) $$ Hb
  icases Hb with ⟨Hl, Hkp⟩
  unfold at'
  icases Hm1 with ⟨Hm1, #Hre⟩
  iapply (wp_send_block X K c d b s hs O h1 h2 h3 h4 h5) $$ [Hl Hp HO Ht1 Ht2]
  · isplitr; · iexact HI
    isplitl [Hl]; · iexact Hl
    isplitl [Hp]; · iexact Hp
    isplitl [HO]; · iexact HO
    isplitl [Ht1]; · iexact Ht1
    isplitr; · iexact Hre
    isplitl [Ht2]; · iexact Ht2
    iexact Hr
  iintro ⟨Hcs, HO⟩
  iapply Hk
  isplitl [Hkp]; · iexact Hkp
  isplitr [HO]
  · isplitl [Hm1 Hm2]
    · isplitl [Hm1]
      · isplitl [Hm1]; · iexact Hm1
        iexact Hre
      iexact Hm2
    isplitl [Hcs]; · iexact Hcs
    iexact Hcr
  iexact HO

/-- The wait for a copy's source. -/
theorem step_sent (K : GSem nD τ sig → ℕ) (c : Dev nD) (d b : Fin 2) {s : ℕ} (hs : s < S d) {w : TpuEff nD τ sig (Elt F) Λ₀ .tc PUnit} {sm : SemLoc sig} {n : ℕ}
    (hw : ∀ Kp : PUnit → sProp (𝕄 F), wpE (defs₀ (F := F)) 𝒱₀ (c : Thread nD τ) none Set.univ w Kp = waitSpec (c : Thread nD τ) Set.univ sm n Kp)
    (hsm : sm = loc (.send d b (sl s))) (hn : n = N) {O : CellTallies nD τ sig ℕ} (hO : Above (2 * s + 2) O) {k : PUnit → Prog (TpuEff nD τ sig (Elt F) Λ₀ .tc) α} :
    iprop(Inv X K ∗ levAts L lv ∗ blk X c d s b kept ∗ flight c d s b ∗ owe c O)
      ⊢ iprop(((blk X c d s b fullShare ∗ flown c d s b ∗ owe c O) -∗ WP c (k ⟨⟩) Q) -∗ WP c (.op w k) Q) := by
  have e1 : 2 * (s / 2) + (sl s).val = s := by show 2 * (s / 2) + s % 2 = s; omega
  have hd : dut (.send d b (sl s)) (s / 2) = {0} := dut_send (by rw [e1]; exact hs)
  subst hn
  unfold flight marks flown
  iintro ⟨#HI, #Hl, Hb, ⟨⟨Hm1, Hm2, Hm3, Hm4⟩, Hcs, Hcr⟩, HO⟩ Hk
  iapply (wp_wait_cell X K c (.send d b (sl s)) (s / 2) 0 (2 * s + 2) hw hsm (by rw [hd]; exact (Nat.one_mul _).symm) (Nat.zero_le _) (by omega) hO) $$ [Hcs HO Hm1]
  · isplitr; · iexact HI
    isplitr; · iexact Hl
    isplitl [Hcs]; · iexact Hcs
    isplitl [HO]; · iexact HO
    iexact Hm1
  iintro ⟨HO, Hm1, Hp⟩
  ihave Hp := (Entails.of_eq (show bigSep (dut (.send d b (sl s)) (s / 2)) (fun u => pay X c (.send d b (sl s)) (s / 2) u) = blk X c d s b lent by
    rw [hd, bigSep_singleton, pay_send, e1])) $$ Hp
  iapply Hk
  isplitl [Hb Hp]
  · iapply (slot_join d b (sl s) c (X b (pvn d s c)))
    isplitl [Hp]; · iexact Hp
    iexact Hb
  isplitr [HO]
  · isplitl [Hm1]; · iexact Hm1
    isplitl [Hm2]; · iexact Hm2
    isplitl [Hm3]; · iexact Hm3
    isplitl [Hm4]; · iexact Hm4
    iexact Hcr
  iexact HO

/-- The wait for the neighbour's copy. -/
theorem step_recv (K : GSem nD τ sig → ℕ) (c : Dev nD) (d b : Fin 2) {s : ℕ} (hs : s < S d) {w : TpuEff nD τ sig (Elt F) Λ₀ .tc PUnit} {sm : SemLoc sig} {n : ℕ}
    (hw : ∀ Kp : PUnit → sProp (𝕄 F), wpE (defs₀ (F := F)) 𝒱₀ (c : Thread nD τ) none Set.univ w Kp = waitSpec (c : Thread nD τ) Set.univ sm n Kp)
    (hsm : sm = loc (.recv d b (sl (s + 1)))) (hn : n = N) {O : CellTallies nD τ sig ℕ} (hO : Above (2 * s + 2) O) {k : PUnit → Prog (TpuEff nD τ sig (Elt F) Λ₀ .tc) α} :
    iprop(Inv X K ∗ levAts L lv ∗ flown c d s b ∗ owe c O)
      ⊢ iprop(((blk X c d (s + 1) b fullShare ∗ marks c d (s + 1) b ∗ reached ER (cell (pv d c) (.cred d)) s ∗ owe c O) -∗ WP c (k ⟨⟩) Q) -∗ WP c (.op w k) Q) := by
  have h16 := S_le d
  have e1 : 2 * (s / 2) + 1 - (sl (s + 1)).val = s := by show 2 * (s / 2) + 1 - (s + 1) % 2 = s; omega
  have hd : dut (.recv d b (sl (s + 1))) (s / 2) = {0} := dut_recv (by show 2 * (s / 2) + 1 < S d + (s + 1) % 2; omega)
  have e2 : (s + 1 + 1) / 2 = s / 2 + 1 := by omega
  subst hn
  unfold flown marks
  rw [show sl (s + 1 + 1) = sl s from sl_add_two s, e2]
  iintro ⟨#HI, #Hl, ⟨Hm1, Hm2, Hm3, Hm4, Hcr⟩, HO⟩ Hk
  iapply (wp_wait_cell X K c (.recv d b (sl (s + 1))) (s / 2) (2 * s + 2) (2 * s + 2) hw hsm (by rw [hd]; exact (Nat.one_mul _).symm) le_rfl (by omega) hO) $$ [Hcr HO Hm2]
  · isplitr; · iexact HI
    isplitr; · iexact Hl
    isplitl [Hcr]; · iexact Hcr
    isplitl [HO]; · iexact HO
    iexact Hm2
  iintro ⟨HO, Hm2, Hp⟩
  ihave Hp := (Entails.of_eq (show bigSep (dut (.recv d b (sl (s + 1))) (s / 2)) (fun u => pay X c (.recv d b (sl (s + 1))) (s / 2) u)
    = iprop(blk X c d (s + 1) b fullShare ∗ reached ER (cell (pv d c) (.cred d)) s) by rw [hd, bigSep_singleton, pay_recv, e1])) $$ Hp
  icases Hp with ⟨Hp, Hre⟩
  iapply Hk
  isplitl [Hp]; · iexact Hp
  isplitl [Hm1 Hm2 Hm3 Hm4]
  · isplitl [Hm3]; · iexact Hm3
    isplitl [Hm4]; · iexact Hm4
    isplitl [Hm1]; · iexact Hm1
    iexact Hm2
  isplitl [Hre]; · iexact Hre
  iexact HO

/-- After the waits of step s. -/
def done (c : Dev nD) (d : Fin 2) (s : ℕ) : sProp (𝕄 F) :=
  iprop(marks c d (s + 1) 0 ∗ marks c d (s + 1) 1 ∗ sigKit c d s ∗ kits c d (s + 1) ∗ at' c (.cred d) s
    ∗ slotAny d 0 (sl s) c ∗ slotAny d 1 (sl s) c ∗ reached ER (cell (pv d c) (.cred d)) s)

/-- Leave given back. -/
theorem step_back (K : GSem nD τ sig → ℕ) (c : Dev nD) (d : Fin 2) {s : ℕ} (hs : s + 1 < S d) {dev : Dev nD} {sem : Sem sig}
    (hdev : dev = pv d c) (hsm : SemLoc.reg sem = loc (.cred d)) (O : CellTallies nD τ sig ℕ) {k : PUnit → Prog (TpuEff nD τ sig (Elt F) Λ₀ .tc) α} :
    iprop(Inv X K ∗ done c d s ∗ owe c (O + credOwe c d s)) ⊢ iprop(((ring c d (s + 1) ∗ owe c O) -∗ WP c (k ⟨⟩) Q)
      -∗ WP c (.op (.semSignal (Dev.tc dev) sem 1) k) Q) := by
  unfold done sigKit ring rest credOwe
  rw [if_pos hs, if_pos hs, if_neg (show ¬s + 1 = 0 by omega), if_neg (show ¬s + 1 = S d by omega)]
  iintro ⟨#HI, ⟨H0, H1, Ht, Hk, Ha, Hs0, Hs1, #Hre⟩, HO⟩ Hc
  unfold marks
  rw [show sl (s + 1 + 1) = sl s from sl_add_two s]
  icases H0 with ⟨H00, H01, H02, H03⟩
  icases H1 with ⟨H10, H11, H12, H13⟩
  unfold at'
  icases H01 with ⟨H01, #Hr0⟩
  icases H11 with ⟨H11, #Hr1⟩
  iapply (wp_signal_cell X K c (pv d c) (.cred d) s (2 * s + 3) 0 hdev hsm (by rw [dut_cred hs]; exact Finset.mem_singleton_self _) rfl O) $$ [HO Ht Hs0 Hs1]
  · isplitr; · iexact HI
    isplitl [HO]; · iexact HO
    isplitl [Ht]; · iexact Ht
    isplitl [Hs0 Hs1]
    · rw [pay_cred]
      unfold perm permB
      rw [show sl (s + 1 + 1) = sl s from sl_add_two s, nx_pv]
      isplitl [Hs0]
      · isplitl [Hs0]; · iexact Hs0
        iexact Hr0
      isplitl [Hs1]; · iexact Hs1
      iexact Hr1
    iexact Hre
  iintro HO
  iapply Hc
  isplitr [HO]
  · isplitl [H00 H01 H02 H03]
    · isplitl [H00]; · iexact H00
      isplitl [H01]
      · isplitl [H01]; · iexact H01
        iexact Hr0
      isplitl [H02]; · iexact H02
      iexact H03
    isplitl [H10 H11 H12 H13]
    · isplitl [H10]; · iexact H10
      isplitl [H11]
      · isplitl [H11]; · iexact H11
        iexact Hr1
      isplitl [H12]; · iexact H12
      iexact H13
    isplitl [Ha]; · iexact Ha
    isplitl [Hk]; · iexact Hk
    isplitr; · iempintro
    iempintro
  iexact HO

/-- The last step gives no leave back. -/
theorem step_last (c : Dev nD) (d : Fin 2) {s : ℕ} (hs : s + 1 = S d) : (done c d s : sProp (𝕄 F)) ⊢ ring c d (s + 1) := by
  unfold done ring rest
  rw [if_neg (show ¬s + 1 = 0 by omega), if_pos hs, show sl (s + 1 + 1) = sl s from sl_add_two s]
  iintro ⟨H0, H1, -, Hk, Ha, Hs0, Hs1, -⟩
  isplitl [H0]; · iexact H0
  isplitl [H1]; · iexact H1
  isplitl [Ha]; · iexact Ha
  isplitl [Hk]; · iexact Hk
  isplitr; · iempintro
  isplitl [Hs0]; · iexact Hs0
  iexact Hs1

end Ring
-- ==== Proof.State.lean ====
/-
  What a device holds before each trip of the loop over the ring and between the trip's pieces, and the words that a trip
  computes.
-/
module

public import proofs.«01_k».proof.Proof.Trip

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] (X : Fin 2 → Dev nD → Blk F)

/-- One trip of the loop, as it is printed. -/
abbrev body (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole) (c : Dev nD) (v131 v194 : BitVec 32) (ones : FVec F S256x64 .bf16) (t : Fin k0_t1_loop.trips) :=
  k0_t1_body (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v131 v194 ones 0#32 t ()

/-! ## Printed words -/

theorem sem_send {off : Fin 3 → ℕ} {inb : ∀ i, off i + S1x1x1.size i ≤ S2x2x2.size i} (d b j : Fin 2) (h : off = ![d.val, b.val, j.val]) :
    SemLoc.dma ((SemArray.slice cc0_scratch6 (Rect.unit (s := S2x2x2) off S1x1x1.size inb)).squeeze S_ Facts₀.squeezes_S1x1x1_S_).sem = loc (.send d b j) := by
  subst h; revert d b j; decide +kernel
theorem sem_recv {off : Fin 3 → ℕ} {inb : ∀ i, off i + S1x1x1.size i ≤ S2x2x2.size i} (d b j : Fin 2) (h : off = ![d.val, b.val, j.val]) :
    SemLoc.dma ((SemArray.slice cc0_scratch7 (Rect.unit (s := S2x2x2) off S1x1x1.size inb)).squeeze S_ Facts₀.squeezes_S1x1x1_S_).sem = loc (.recv d b j) := by
  subst h; revert d b j; decide +kernel
theorem slot_of_off {off : Fin 5 → ℕ} {inb : ∀ i, off i + S1x2x8x256x64.size i ≤ S2x2x8x256x64.size i} {M M' : Memref sig .tc .vmem S2x2x8x256x64 .bf16}
    (hM : M = M') (j : Fin 2) (h : off = ![j.val, 0, 0, 0, 0]) :
    (M.slice (Rect.unit (s := S2x2x8x256x64) off S1x2x8x256x64.size inb) (fun _ => rfl)).squeeze S2x8x256x64 Facts₀.squeezes_S1x2x8x256x64_S2x8x256x64 = slotOf M' j := by
  subst h hM; rfl

theorem off1_eq (t : Fin k0_t1_loop.trips) : k0_off1 t = ![0, 0, (sl t.val).val] := by revert t; decide +kernel
theorem off2_eq (t : Fin k0_t1_loop.trips) : k0_off2 t = ![0, 0, (sl (t.val + 1)).val] := by revert t; decide +kernel
theorem off3_eq (t : Fin k0_t1_loop.trips) : k0_off3 t = ![(sl (t.val + 1)).val, 0, 0, 0, 0] := by revert t; decide +kernel
theorem off4_eq (t : Fin k0_t1_loop.trips) : k0_off4 t = ![(sl t.val).val, 0, 0, 0, 0] := by revert t; decide +kernel
theorem off5_eq (t : Fin k0_t1_loop.trips) : k0_off5 t = ![0, 1, (sl t.val).val] := by revert t; decide +kernel
theorem off6_eq (t : Fin k0_t1_loop.trips) : k0_off6 t = ![0, 1, (sl (t.val + 1)).val] := by revert t; decide +kernel
theorem off7_eq (t : Fin k0_t1_loop.trips) : k0_off7 t = ![1, 0, (sl t.val).val] := by revert t; decide +kernel
theorem off8_eq (t : Fin k0_t1_loop.trips) : k0_off8 t = ![1, 0, (sl (t.val + 1)).val] := by revert t; decide +kernel
theorem off9_eq (t : Fin k0_t1_loop.trips) : k0_off9 t = ![(sl (t.val + 1)).val, 0, 0, 0, 0] := by revert t; decide +kernel
theorem off10_eq (t : Fin k0_t1_loop.trips) : k0_off10 t = ![(sl t.val).val, 0, 0, 0, 0] := by revert t; decide +kernel
theorem off11_eq (t : Fin k0_t1_loop.trips) : k0_off11 t = ![1, 1, (sl t.val).val] := by revert t; decide +kernel
theorem off12_eq (t : Fin k0_t1_loop.trips) : k0_off12 t = ![1, 1, (sl (t.val + 1)).val] := by revert t; decide +kernel
theorem off45_eq (t : Fin k0_t1_loop.trips) : k0_off45 t = ![1, 0, (sl t.val).val] := by revert t; decide +kernel
theorem off48_eq (t : Fin k0_t1_loop.trips) : k0_off48 t = ![1, 0, (sl (t.val + 1)).val] := by revert t; decide +kernel
theorem off49_eq (t : Fin k0_t1_loop.trips) : k0_off49 t = ![1, 1, (sl t.val).val] := by revert t; decide +kernel
theorem off50_eq (t : Fin k0_t1_loop.trips) : k0_off50 t = ![1, 1, (sl (t.val + 1)).val] := by revert t; decide +kernel
theorem trips_eq : k0_t1_loop.trips = 16 := by decide +kernel
theorem cond3_iff (t : Fin k0_t1_loop.trips) : k0_cond3 t = 1#1 ↔ t.val < 15 := by revert t; decide +kernel
theorem cond4_iff (t : Fin k0_t1_loop.trips) : k0_cond4 t = 1#1 ↔ 1 ≤ t.val := by revert t; decide +kernel
theorem cond5_iff (t : Fin k0_t1_loop.trips) : k0_cond5 t = 1#1 ↔ t.val < 15 := by revert t; decide +kernel
theorem cond6_iff (t : Fin k0_t1_loop.trips) : k0_cond6 t = 1#1 ↔ t.val < 15 := by revert t; decide +kernel
theorem cond7_iff (t : Fin k0_t1_loop.trips) : k0_cond7 t = 1#1 ↔ t.val < 14 := by revert t; decide +kernel
theorem cond1_iff (t : Fin k0_t1_loop.trips) : Scalar.cmpi .ne (Scalar.extui (Scalar.cmpi .sge (Scf.iv 0#32 1#32 t) 1#32)) 0#32 = 1#1 ↔ 1 ≤ t.val := by
  revert t; decide +kernel
theorem cond2_iff (t : Fin k0_t1_loop.trips) : Scalar.cmpi .ne (Scalar.extui (Scalar.andi (Scalar.cmpi .sge (Scf.iv 0#32 1#32 t) 1#32) (Scalar.cmpi .sle (Scf.iv 0#32 1#32 t) 14#32))) 0#32 = 1#1 ↔ 1 ≤ t.val ∧ t.val < 15 := by
  revert t; decide +kernel

/-! ## A conditional -/

theorem bind_cond {α β : Type} {p : Prop} [Decidable p] (A : p → Prog (TpuEff nD τ sig (Elt F) Λ₀ .tc) α) (B : ¬p → Prog (TpuEff nD τ sig (Elt F) Λ₀ .tc) α) (k : α → Prog (TpuEff nD τ sig (Elt F) Λ₀ .tc) β) :
    dite p A B >>= k = dite p (fun h => A h >>= k) fun h => B h >>= k := by
  by_cases h : p
  · rw [dif_pos h, dif_pos h]
  · rw [dif_neg h, dif_neg h]

/-- A conditional with one way empty: both ways reach what stands after it. -/
theorem wp_split {α : Type} {Q : α → sProp (𝕄 F)} {c : Dev nD} {p : Prop} {inst : Decidable p} {B : p → Prog (TpuEff nD τ sig (Elt F) Λ₀ .tc) α} {J : Prog (TpuEff nD τ sig (Elt F) Λ₀ .tc) α}
    {Pre : sProp (𝕄 F)} (Mid : sProp (𝕄 F)) (hk : Mid ⊢ WP c J Q) (hp : ∀ h, (Mid ⊢ WP c J Q) → Pre ⊢ WP c (B h) Q) (hn : ¬p → Pre ⊢ Mid) :
    Pre ⊢ WP c (dite p B fun _ => J) Q := by
  by_cases h : p
  · rw [dif_pos h]; exact hp h hk
  · rw [dif_neg h]; exact (hn h).trans hk

/-! ## What is held between the pieces of a trip -/

variable (K : GSem nD τ sig → ℕ) (c : Dev nD) (ones : FVec F S256x64 .bf16) (Qb : Blk F)

/-- The accumulators before trip k. -/
def accAt (X : Fin 2 → Dev nD → Blk F) (c : Dev nD) (ones : FVec F S256x64 .bf16) (Qb : Blk F) : ℕ → ℕ → ℕ → Vec F S1x1x256x128 .f32
  | 0 => pickA (k0_pay62 (F := F))
  | k + 1 =>
    let A := headV ones Qb (X 0 (pvn 0 k c)) (X 1 (pvn 0 k c)) (accAt X c ones Qb k)
    if 1 ≤ k then headV ones Qb (X 0 (pvn 1 k c)) (X 1 (pvn 1 k c)) A else A

/-- The state between two pieces of a trip. -/
def st (O : CellTallies nD τ sig ℕ) (D0 D1 B0 B1 : sProp (𝕄 F)) (A : ℕ → ℕ → Vec F S1x1x256x128 .f32) : sProp (𝕄 F) :=
  iprop(Inv X K ∗ levAts L lv ∗ owe c O ∗ D0 ∗ D1 ∗ B0 ∗ B1 ∗ qbPts c Qb ∗ accPts c A)

/-- Both slots read at step s. -/
abbrev blks (d : Fin 2) (s : ℕ) (q : PosShare TreeShare) : sProp (𝕄 F) := iprop(blk X c d s 0 q ∗ blk X c d s 1 q)
/-- A direction with its copies under way. -/
def out (d : Fin 2) (s : ℕ) : sProp (𝕄 F) := iprop(flight c d s 0 ∗ flight c d s 1 ∗ sigKit c d s ∗ kits c d (s + 1) ∗ at' c (.cred d) s)
/-- What is owed of a direction after the copies of step s. -/
def owedO (d : Fin 2) (s : ℕ) : CellTallies nD τ sig ℕ := owedD c d (s + 1) + credOwe c d s

/-- The loop's invariant: before trip k. -/
def inv (k : ℕ) : sProp (𝕄 F) :=
  st X K c Qb (owedD c 0 k + owedD c 1 (min k 15)) (ring c 0 k) (ring c 1 (min k 15)) (blks X c 0 k fullShare) (blks X c 1 (min k 15) fullShare) (accAt X c ones Qb k)

variable {X K c ones Qb}

theorem owedD_split (d : Fin 2) {s : ℕ} (h : s < S d) : owedD c d s = owedO c d s + copyOwe c d s 1 + copyOwe c d s 0 := by
  rw [owedD_step c d h]; unfold stepOwe owedO; ac_rfl
theorem owedO_above (d : Fin 2) {s : ℕ} (h : s < S d) : Above (2 * s + 2) (owedO c d s) :=
  ((owedD_above c d (s + 1)).mono (by omega)).add (credOwe_above c d s (by have := S_le d; omega))

/-- Both copies of a step. -/
theorem ready_parts (d : Fin 2) (s : ℕ) : (ready c d s : sProp (𝕄 F)) ⊢ iprop((marks c d s 0 ∗ copyKit c d s 0 ∗ permB c d s 0) ∗ (marks c d s 1 ∗ copyKit c d s 1 ∗ permB c d s 1)
    ∗ sigKit c d s ∗ kits c d (s + 1) ∗ atPos ER (cell c (.cred d)) s ∅ 0 ∗ reached ER (cell c (.cred d)) s) := by
  unfold ready perm at'
  iintro ⟨H0, H1, H2, H3, H4, H5, ⟨H6, H7⟩, H8, H9⟩
  isplitl [H0 H2 H8]
  · isplitl [H0]; · iexact H0
    isplitl [H2]; · iexact H2
    iexact H8
  isplitl [H1 H3 H9]
  · isplitl [H1]; · iexact H1
    isplitl [H3]; · iexact H3
    iexact H9
  isplitl [H4]; · iexact H4
  isplitl [H5]; · iexact H5
  isplitl [H6]; · iexact H6
  iexact H7

end Ring
-- ==== Proof.Stages.lean ====
/-
  The pieces of a trip, one direction in focus: the wait for leave, the two copies, the four waits and the leave given
  back, each from one state to the next.
-/
module

public import proofs.«01_k».proof.Proof.State

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] (X : Fin 2 → Dev nD → Blk F) (K : GSem nD τ sig → ℕ) (c : Dev nD)

/-- A finished program. -/
theorem wp_done {α : Type} (a : α) (Q : α → sProp (𝕄 F)) : Q a ⊢ WP c (Prog.ret a) Q :=
  le_wp_ret (Fr := frame) (wpE := wpE (defs₀ (F := F)) 𝒱₀ (c : Thread nD τ) none) Set.univ a Q

/-- The state with one direction in focus. -/
def fs (O : CellTallies nD τ sig ℕ) (D B R : sProp (𝕄 F)) : sProp (𝕄 F) := iprop(Inv X K ∗ levAts L lv ∗ owe c O ∗ D ∗ B ∗ R)

variable {X K c} {O : CellTallies nD τ sig ℕ} {D0 D1 B0 B1 : sProp (𝕄 F)} {A : ℕ → ℕ → Vec F S1x1x256x128 .f32} {Qb : Blk F} {R : sProp (𝕄 F)}
  {α : Type} {Q : α → sProp (𝕄 F)}

theorem st_fs0 : st X K c Qb O D0 D1 B0 B1 A ⊢ fs X K c O D0 B0 iprop(D1 ∗ B1 ∗ qbPts c Qb ∗ accPts c A) := by
  unfold st fs
  iintro ⟨H0, H1, H2, H3, H4, H5, H6, H7, H8⟩
  isplitl [H0]; · iexact H0
  isplitl [H1]; · iexact H1
  isplitl [H2]; · iexact H2
  isplitl [H3]; · iexact H3
  isplitl [H5]; · iexact H5
  isplitl [H4]; · iexact H4
  isplitl [H6]; · iexact H6
  isplitl [H7]; · iexact H7
  iexact H8
theorem fs0_st : fs X K c O D0 B0 iprop(D1 ∗ B1 ∗ qbPts c Qb ∗ accPts c A) ⊢ st X K c Qb O D0 D1 B0 B1 A := by
  unfold st fs
  iintro ⟨H0, H1, H2, H3, H5, H4, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
theorem st_fs1 : st X K c Qb O D0 D1 B0 B1 A ⊢ fs X K c O D1 B1 iprop(D0 ∗ B0 ∗ qbPts c Qb ∗ accPts c A) := by
  unfold st fs
  iintro ⟨H0, H1, H2, H3, H4, H5, H6, H7, H8⟩
  isplitl [H0]; · iexact H0
  isplitl [H1]; · iexact H1
  isplitl [H2]; · iexact H2
  isplitl [H4]; · iexact H4
  isplitl [H6]; · iexact H6
  isplitl [H3]; · iexact H3
  isplitl [H5]; · iexact H5
  isplitl [H7]; · iexact H7
  iexact H8
theorem fs1_st : fs X K c O D1 B1 iprop(D0 ∗ B0 ∗ qbPts c Qb ∗ accPts c A) ⊢ st X K c Qb O D0 D1 B0 B1 A := by
  unfold st fs
  iintro ⟨H0, H1, H2, H4, H6, H3, H5, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A change of what a direction holds, the state before and after. -/
theorem st_mono0 {D0' : sProp (𝕄 F)} (h : D0 ⊢ D0') : st X K c Qb O D0 D1 B0 B1 A ⊢ st X K c Qb O D0' D1 B0 B1 A := by
  unfold st
  iintro ⟨H0, H1, H2, H3, H4⟩
  isplitl [H0]; · iexact H0
  isplitl [H1]; · iexact H1
  isplitl [H2]; · iexact H2
  isplitl [H3]; · iapply h $$ H3
  iexact H4
theorem st_mono1 {D1' : sProp (𝕄 F)} (h : D1 ⊢ D1') : st X K c Qb O D0 D1 B0 B1 A ⊢ st X K c Qb O D0 D1' B0 B1 A := by
  unfold st
  iintro ⟨H0, H1, H2, H3, H4, H5⟩
  isplitl [H0]; · iexact H0
  isplitl [H1]; · iexact H1
  isplitl [H2]; · iexact H2
  isplitl [H3]; · iexact H3
  isplitl [H4]; · iapply h $$ H4
  iexact H5

variable {B : sProp (𝕄 F)}

theorem fs_leave (d : Fin 2) {s : ℕ} (h0 : 1 ≤ s) (hs : s < S d) {w : TpuEff nD τ sig (Elt F) Λ₀ .tc PUnit} {sm : SemLoc sig} {n : ℕ} {k : PUnit → Prog (TpuEff nD τ sig (Elt F) Λ₀ .tc) α}
    (hw : ∀ Kp : PUnit → sProp (𝕄 F), wpE (defs₀ (F := F)) 𝒱₀ (c : Thread nD τ) none Set.univ w Kp = waitSpec (c : Thread nD τ) Set.univ sm n Kp)
    (hsm : sm = loc (.cred d)) (hn : n = 1) (hO : Above (2 * s + 1) O) (hk : fs X K c O (ready c d s) B R ⊢ WP c (k ⟨⟩) Q) :
    fs X K c O (ring c d s) B R ⊢ WP c (.op w k) Q := by
  unfold fs at hk ⊢
  iintro ⟨#HI, #Hl, HO, HD, HB, HR⟩
  iapply (step_leave K c d h0 hs hw hsm hn hO) $$ [HO HD]
  · isplitr; · iexact HI
    isplitr; · iexact Hl
    isplitl [HD]; · iexact HD
    iexact HO
  iintro ⟨HD, HO⟩
  iapply hk
  isplitr; · iexact HI
  isplitr; · iexact Hl
  isplitl [HO]; · iexact HO
  isplitl [HD]; · iexact HD
  isplitl [HB]; · iexact HB
  iexact HR

/-- Both copies of a step. -/
theorem fs_sends (d : Fin 2) {s : ℕ} (hs : s < S d)
    {src dst src' dst' : Memref sig .tc .vmem S2x8x256x64 .bf16} {dev dev' : Dev nD} {ss rs ss' rs' : DmaSem sig}
    {hsc : dst.view.ref.isScScratch = false} {hsrc : src.view.WordExact} {hdst : dst.view.WordExact}
    {hsem : DmaTarget.Typed .vmem (.dma rs) (.remote (Dev.tc dev : Thread nD τ) dst (.dma ss) hsc)}
    {hsc' : dst'.view.ref.isScScratch = false} {hsrc' : src'.view.WordExact} {hdst' : dst'.view.WordExact}
    {hsem' : DmaTarget.Typed .vmem (.dma rs') (.remote (Dev.tc dev' : Thread nD τ) dst' (.dma ss') hsc')}
    {k : PUnit → Prog (TpuEff nD τ sig (Elt F) Λ₀ .tc) α} {O' : CellTallies nD τ sig ℕ} (hO : O' = O + copyOwe c d s 1 + copyOwe c d s 0)
    (h1 : src = slotM d 0 (sl s)) (h2 : dst = slotM d 0 (sl (s + 1))) (h3 : dev = nx d c)
    (h4 : SemLoc.dma ss = loc (.send d 0 (sl s))) (h5 : SemLoc.dma rs = loc (.recv d 0 (sl (s + 1))))
    (h1' : src' = slotM d 1 (sl s)) (h2' : dst' = slotM d 1 (sl (s + 1))) (h3' : dev' = nx d c)
    (h4' : SemLoc.dma ss' = loc (.send d 1 (sl s))) (h5' : SemLoc.dma rs' = loc (.recv d 1 (sl (s + 1))))
    (hk : fs X K c O (out c d s) (blks X c d s kept) R ⊢ WP c (k ⟨⟩) Q) :
    fs X K c O' (ready c d s) (blks X c d s fullShare) R
      ⊢ WP c (.op (.enqueueDma src (.remote (Dev.tc dev) dst (.dma ss) hsc) (.dma rs) hsrc hdst hsem) fun _ =>
          .op (.enqueueDma src' (.remote (Dev.tc dev') dst' (.dma ss') hsc') (.dma rs') hsrc' hdst' hsem') k) Q := by
  subst hO
  unfold fs out at hk
  unfold fs
  iintro ⟨#HI, #Hl, HO, HD, ⟨HB0, HB1⟩, HR⟩
  ihave HD := (ready_parts d s) $$ HD
  icases HD with ⟨⟨Hm0, Hc0, Hp0⟩, ⟨Hm1, Hc1, Hp1⟩, Hsg, Hks, Hat, #Hre⟩
  iapply (step_send K c d 0 hs (O + copyOwe c d s 1) h1 h2 h3 h4 h5) $$ [HB0 Hm0 Hc0 Hp0 HO]
  · isplitr; · iexact HI
    isplitl [HB0]; · iexact HB0
    isplitl [Hm0]; · iexact Hm0
    isplitl [Hc0]; · iexact Hc0
    isplitl [Hp0]; · iexact Hp0
    isplitl [HO]; · iexact HO
    iexact Hre
  iintro ⟨HB0, Hf0, HO⟩
  iapply (step_send K c d 1 hs O h1' h2' h3' h4' h5') $$ [HB1 Hm1 Hc1 Hp1 HO]
  · isplitr; · iexact HI
    isplitl [HB1]; · iexact HB1
    isplitl [Hm1]; · iexact Hm1
    isplitl [Hc1]; · iexact Hc1
    isplitl [Hp1]; · iexact Hp1
    isplitl [HO]; · iexact HO
    iexact Hre
  iintro ⟨HB1, Hf1, HO⟩
  iapply hk
  isplitr; · iexact HI
  isplitr; · iexact Hl
  isplitl [HO]; · iexact HO
  isplitl [Hf0 Hf1 Hsg Hks Hat]
  · isplitl [Hf0]; · iexact Hf0
    isplitl [Hf1]; · iexact Hf1
    isplitl [Hsg]; · iexact Hsg
    isplitl [Hks]; · iexact Hks
    unfold at'
    isplitl [Hat]; · iexact Hat
    iexact Hre
  isplitl [HB0 HB1]
  · isplitl [HB0]; · iexact HB0
    iexact HB1
  iexact HR

/-- The four waits of a step. -/
theorem fs_waits (d : Fin 2) {s : ℕ} (hs : s < S d) (hO : Above (2 * s + 2) O) {w1 w2 w3 w4 : TpuEff nD τ sig (Elt F) Λ₀ .tc PUnit} {m1 m2 m3 m4 : SemLoc sig} {n1 n2 n3 n4 : ℕ}
    {k : PUnit → Prog (TpuEff nD τ sig (Elt F) Λ₀ .tc) α}
    (hw1 : ∀ Kp : PUnit → sProp (𝕄 F), wpE (defs₀ (F := F)) 𝒱₀ (c : Thread nD τ) none Set.univ w1 Kp = waitSpec (c : Thread nD τ) Set.univ m1 n1 Kp)
    (hw2 : ∀ Kp : PUnit → sProp (𝕄 F), wpE (defs₀ (F := F)) 𝒱₀ (c : Thread nD τ) none Set.univ w2 Kp = waitSpec (c : Thread nD τ) Set.univ m2 n2 Kp)
    (hw3 : ∀ Kp : PUnit → sProp (𝕄 F), wpE (defs₀ (F := F)) 𝒱₀ (c : Thread nD τ) none Set.univ w3 Kp = waitSpec (c : Thread nD τ) Set.univ m3 n3 Kp)
    (hw4 : ∀ Kp : PUnit → sProp (𝕄 F), wpE (defs₀ (F := F)) 𝒱₀ (c : Thread nD τ) none Set.univ w4 Kp = waitSpec (c : Thread nD τ) Set.univ m4 n4 Kp)
    (hm1 : m1 = loc (.send d 0 (sl s))) (hm2 : m2 = loc (.recv d 0 (sl (s + 1)))) (hm3 : m3 = loc (.send d 1 (sl s))) (hm4 : m4 = loc (.recv d 1 (sl (s + 1))))
    (hn1 : n1 = N) (hn2 : n2 = N) (hn3 : n3 = N) (hn4 : n4 = N)
    (hk : fs X K c O (done c d s) (blks X c d (s + 1) fullShare) R ⊢ WP c (k ⟨⟩) Q) :
    fs X K c O (out c d s) (blks X c d s kept) R ⊢ WP c (.op w1 fun _ => .op w2 fun _ => .op w3 fun _ => .op w4 k) Q := by
  unfold fs done at hk
  unfold fs out
  iintro ⟨#HI, #Hl, HO, ⟨Hf0, Hf1, Hsg, Hks, Hat⟩, ⟨HB0, HB1⟩, HR⟩
  iapply (step_sent K c d 0 hs hw1 hm1 hn1 hO) $$ [HO Hf0 HB0]
  · isplitr; · iexact HI
    isplitr; · iexact Hl
    isplitl [HB0]; · iexact HB0
    isplitl [Hf0]; · iexact Hf0
    iexact HO
  iintro ⟨HB0, Hf0, HO⟩
  iapply (step_recv K c d 0 hs hw2 hm2 hn2 hO) $$ [HO Hf0]
  · isplitr; · iexact HI
    isplitr; · iexact Hl
    isplitl [Hf0]; · iexact Hf0
    iexact HO
  iintro ⟨HN0, Hm0, -, HO⟩
  iapply (step_sent K c d 1 hs hw3 hm3 hn3 hO) $$ [HO Hf1 HB1]
  · isplitr; · iexact HI
    isplitr; · iexact Hl
    isplitl [HB1]; · iexact HB1
    isplitl [Hf1]; · iexact Hf1
    iexact HO
  iintro ⟨HB1, Hf1, HO⟩
  iapply (step_recv K c d 1 hs hw4 hm4 hn4 hO) $$ [HO Hf1]
  · isplitr; · iexact HI
    isplitr; · iexact Hl
    isplitl [Hf1]; · iexact Hf1
    iexact HO
  iintro ⟨HN1, Hm1, #Hre, HO⟩
  iapply hk
  isplitr; · iexact HI
  isplitr; · iexact Hl
  isplitl [HO]; · iexact HO
  isplitl [HB0 HB1 Hm0 Hm1 Hsg Hks Hat]
  · isplitl [Hm0]; · iexact Hm0
    isplitl [Hm1]; · iexact Hm1
    isplitl [Hsg]; · iexact Hsg
    isplitl [Hks]; · iexact Hks
    isplitl [Hat]; · iexact Hat
    isplitl [HB0]; · iapply (slotPts_any _ _ _ _ _) $$ HB0
    isplitl [HB1]; · iapply (slotPts_any _ _ _ _ _) $$ HB1
    iexact Hre
  isplitl [HN0 HN1]
  · isplitl [HN0]; · iexact HN0
    iexact HN1
  iexact HR

/-- Leave given back. -/
theorem fs_back (d : Fin 2) {s : ℕ} (hs : s + 1 < S d) {dev : Dev nD} {sem : Sem sig} {n : ℤ} {O' : CellTallies nD τ sig ℕ}
    (hn : n = 1) (hdev : dev = pv d c) (hsm : SemLoc.reg sem = loc (.cred d)) (hO : O' = O + credOwe c d s) {k : PUnit → Prog (TpuEff nD τ sig (Elt F) Λ₀ .tc) α}
    (hk : fs X K c O (ring c d (s + 1)) B R ⊢ WP c (k ⟨⟩) Q) :
    fs X K c O' (done c d s) B R ⊢ WP c (.op (.semSignal (Dev.tc dev) sem n) k) Q := by
  subst hn hO
  unfold fs at hk ⊢
  iintro ⟨#HI, #Hl, HO, HD, HB, HR⟩
  iapply (step_back K c d hs hdev hsm O) $$ [HO HD]
  · isplitr; · iexact HI
    isplitl [HD]; · iexact HD
    iexact HO
  iintro ⟨HD, HO⟩
  iapply hk
  isplitr; · iexact HI
  isplitr; · iexact Hl
  isplitl [HO]; · iexact HO
  isplitl [HD]; · iexact HD
  isplitl [HB]; · iexact HB
  iexact HR

end Ring
-- ==== Proof.Loop.lean ====
/-
  The loop over the ring: one trip, from what a device holds before it to what it holds before the next.
-/
module

public import proofs.«01_k».proof.Proof.Stages

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] {X : Fin 2 → Dev nD → Blk F} {K : GSem nD τ sig → ℕ} {c : Dev nD} {ones : FVec F S256x64 .bf16} {Qb : Blk F}

theorem credit_of_off {off : Fin 5 → ℕ} {inb : ∀ i, off i + S1x2x8x256x64.size i ≤ S2x2x8x256x64.size i} {M : Memref sig .tc .vmem S2x2x8x256x64 .bf16} (d b j : Fin 2)
    (hM : M = buf d b) (h : off = ![j.val, 0, 0, 0, 0]) :
    ((M.slice (Rect.unit (s := S2x2x8x256x64) off S1x2x8x256x64.size inb) (fun _ => rfl)).squeeze S2x8x256x64 Facts₀.squeezes_S1x2x8x256x64_S2x8x256x64).view.dmaCredit = N := by
  rw [slot_of_off hM j h]; exact amount_slot d b j ⟨0, by decide⟩
theorem off46_eq (t : Fin k0_t1_loop.trips) : k0_off46 t = ![(sl t.val).val, 0, 0, 0, 0] := by revert t; decide +kernel
theorem off47_eq (t : Fin k0_t1_loop.trips) : k0_off47 t = ![(sl (t.val + 1)).val, 0, 0, 0, 0] := by revert t; decide +kernel

/-- The slot that a trip's loads name. -/
theorem load_slot (t : Fin k0_t1_loop.trips) : (Scalar.indexCast (Scalar.remsi (Scf.iv 0#32 1#32 t) 2#32)).toNat = (sl t.val).val := by revert t; decide +kernel

theorem accAt_both {k : ℕ} (h : 1 ≤ k) : accAt X c ones Qb (k + 1)
    = headV ones Qb (X 0 (pvn 1 k c)) (X 1 (pvn 1 k c)) (headV ones Qb (X 0 (pvn 0 k c)) (X 1 (pvn 0 k c)) (accAt X c ones Qb k)) := by
  rw [accAt]; exact if_pos h
theorem accAt_one {k : ℕ} (h : ¬1 ≤ k) : accAt X c ones Qb (k + 1) = headV ones Qb (X 0 (pvn 0 k c)) (X 1 (pvn 0 k c)) (accAt X c ones Qb k) := by
  rw [accAt]; exact if_neg h

/-- From a trip's state to the heads of the block read, and back. -/
theorem st_heads0 {O : CellTallies nD τ sig ℕ} {D0 D1 B1 : sProp (𝕄 F)} {q : PosShare TreeShare} {A : ℕ → ℕ → Vec F S1x1x256x128 .f32} {s : ℕ} :
    st X K c Qb O D0 D1 (blks X c 0 s q) B1 A
      ⊢ HS c 0 (sl s) q ones Qb (X 0 (pvn 0 s c)) (X 1 (pvn 0 s c)) A 0 iprop(Inv X K ∗ levAts L lv ∗ owe c O ∗ D0 ∗ D1 ∗ B1) := by
  unfold st HS
  iintro ⟨H0, H1, H2, H3, H4, ⟨H5, H6⟩, H7, H8, H9⟩
  isplitl [H8]; · iexact H8
  isplitl [H5]; · iexact H5
  isplitl [H6]; · iexact H6
  isplitl [H9]; · iapply (mix_zero _ _ _) $$ H9
  isplitl [H0]; · iexact H0
  isplitl [H1]; · iexact H1
  isplitl [H2]; · iexact H2
  isplitl [H3]; · iexact H3
  isplitl [H4]; · iexact H4
  iexact H7
theorem heads0_st {O : CellTallies nD τ sig ℕ} {D0 D1 B1 : sProp (𝕄 F)} {q : PosShare TreeShare} {A : ℕ → ℕ → Vec F S1x1x256x128 .f32} {s : ℕ} :
    HS c 0 (sl s) q ones Qb (X 0 (pvn 0 s c)) (X 1 (pvn 0 s c)) A 16 iprop(Inv X K ∗ levAts L lv ∗ owe c O ∗ D0 ∗ D1 ∗ B1)
      ⊢ st X K c Qb O D0 D1 (blks X c 0 s q) B1 (headV ones Qb (X 0 (pvn 0 s c)) (X 1 (pvn 0 s c)) A) := by
  unfold st HS
  iintro ⟨H8, H5, H6, H9, H0, H1, H2, H3, H4, H7⟩
  isplitl [H0]; · iexact H0
  isplitl [H1]; · iexact H1
  isplitl [H2]; · iexact H2
  isplitl [H3]; · iexact H3
  isplitl [H4]; · iexact H4
  isplitl [H5 H6]
  · isplitl [H5]; · iexact H5
    iexact H6
  isplitl [H7]; · iexact H7
  isplitl [H8]; · iexact H8
  iapply (mix_all _ _ _) $$ H9
theorem st_heads1 {O : CellTallies nD τ sig ℕ} {D0 D1 B0 : sProp (𝕄 F)} {q : PosShare TreeShare} {A : ℕ → ℕ → Vec F S1x1x256x128 .f32} {s : ℕ} :
    st X K c Qb O D0 D1 B0 (blks X c 1 s q) A
      ⊢ HS c 1 (sl s) q ones Qb (X 0 (pvn 1 s c)) (X 1 (pvn 1 s c)) A 0 iprop(Inv X K ∗ levAts L lv ∗ owe c O ∗ D0 ∗ D1 ∗ B0) := by
  unfold st HS
  iintro ⟨H0, H1, H2, H3, H4, H7, ⟨H5, H6⟩, H8, H9⟩
  isplitl [H8]; · iexact H8
  isplitl [H5]; · iexact H5
  isplitl [H6]; · iexact H6
  isplitl [H9]; · iapply (mix_zero _ _ _) $$ H9
  isplitl [H0]; · iexact H0
  isplitl [H1]; · iexact H1
  isplitl [H2]; · iexact H2
  isplitl [H3]; · iexact H3
  isplitl [H4]; · iexact H4
  iexact H7
theorem heads1_st {O : CellTallies nD τ sig ℕ} {D0 D1 B0 : sProp (𝕄 F)} {q : PosShare TreeShare} {A : ℕ → ℕ → Vec F S1x1x256x128 .f32} {s : ℕ} :
    HS c 1 (sl s) q ones Qb (X 0 (pvn 1 s c)) (X 1 (pvn 1 s c)) A 16 iprop(Inv X K ∗ levAts L lv ∗ owe c O ∗ D0 ∗ D1 ∗ B0)
      ⊢ st X K c Qb O D0 D1 B0 (blks X c 1 s q) (headV ones Qb (X 0 (pvn 1 s c)) (X 1 (pvn 1 s c)) A) := by
  unfold st HS
  iintro ⟨H8, H5, H6, H9, H0, H1, H2, H3, H4, H7⟩
  isplitl [H0]; · iexact H0
  isplitl [H1]; · iexact H1
  isplitl [H2]; · iexact H2
  isplitl [H3]; · iexact H3
  isplitl [H4]; · iexact H4
  isplitl [H7]; · iexact H7
  isplitl [H5 H6]
  · isplitl [H5]; · iexact H5
    iexact H6
  isplitl [H8]; · iexact H8
  iapply (mix_all _ _ _) $$ H9

set_option maxHeartbeats 1000000 in
theorem trip (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole)
    (v131 v194 : BitVec 32) (t : Fin k0_t1_loop.trips) :
    inv X K c ones Qb t.val ⊢ WP c (body a0 h0 a1 h1 a2 h2 a3 h3 c v131 v194 ones t) (fun _ => inv X K c ones Qb (t.val + 1)) := by
  have ht : t.val < 16 := t.isLt
  have hS0 : t.val < S 0 := ht
  have e0 : min t.val 15 = t.val := by omega
  unfold body k0_t1_body
  simp only [k0_part13_eq_skeleton, k0_part13_skel, Prog.lift, Prog.bind_op, Prog.bind_ret, Prog.pure_eq_ret, semWaitWord, bind_cond]
  unfold inv
  rw [e0]
  have aR := owedD_above c 0 t.val
  have aL := owedD_above c 1 t.val
  -- the waits for leave
  refine wp_split (st X K c Qb (owedD c 0 t + owedD c 1 t) (ready c 0 t) (ring c 1 t) (blks X c 0 t fullShare) (blks X c 1 t fullShare) (accAt X c ones Qb t)) ?_ ?_ ?_
  rotate_left
  · intro h hk
    exact st_fs0.trans (fs_leave 0 ((cond1_iff t).mp h) hS0 (fun _ => rfl) rfl rfl (aR.add aL) (fs0_st.trans hk))
  · intro h
    have h0 : t.val = 0 := by have := mt (cond1_iff t).mpr h; omega
    rw [h0]
    exact st_mono0 (ready_first c 0)
  refine wp_split (st X K c Qb (owedD c 0 t + owedD c 1 t) (ready c 0 t) (if t.val < 15 then ready c 1 t else ring c 1 t) (blks X c 0 t fullShare) (blks X c 1 t fullShare) (accAt X c ones Qb t)) ?_ ?_ ?_
  rotate_left
  · intro h hk
    obtain ⟨h1, h2⟩ := (cond2_iff t).mp h
    rw [if_pos h2] at hk
    exact st_fs1.trans (fs_leave 1 h1 h2 (fun _ => rfl) rfl rfl (aR.add aL) (fs1_st.trans hk))
  · intro h
    by_cases h2 : t.val < 15
    · have h0 : t.val = 0 := by have := mt (cond2_iff t).mpr h; omega
      rw [if_pos h2, h0]
      exact st_mono1 (ready_first c 1)
    · rw [if_neg h2]
  -- the copies to the right
  simp only [k0_part14_eq_skeleton, k0_part14_skel, Prog.lift, Prog.bind_op, Prog.bind_ret, Prog.pure_eq_ret, bind_cond]
  refine st_fs0.trans (fs_sends (O := owedO c 0 t + owedD c 1 t) 0 hS0 (by rw [owedD_split 0 hS0]; ac_rfl)
    (slot_of_off rfl _ (off4_eq t)) (slot_of_off rfl _ (off3_eq t)) (dev3_eq c) (sem_send 0 0 _ (off1_eq t)) (sem_recv 0 0 _ (off2_eq t))
    (slot_of_off rfl _ (off4_eq t)) (slot_of_off rfl _ (off3_eq t)) (dev4_eq c) (sem_send 0 1 _ (off5_eq t)) (sem_recv 0 1 _ (off6_eq t)) (fs0_st.trans ?_))
  -- the copies to the left
  refine wp_split (st X K c Qb (owedO c 0 t + if t.val < 15 then owedO c 1 t else owedD c 1 t) (out c 0 t) (if t.val < 15 then out c 1 t else ring c 1 t) (blks X c 0 t kept) (blks X c 1 t (if t.val < 15 then kept else fullShare)) (accAt X c ones Qb t)) ?_ ?_ ?_
  rotate_left
  · intro h hk
    have h2 := (cond3_iff t).mp h
    rw [if_pos h2, if_pos h2, if_pos h2] at hk
    rw [if_pos h2]
    exact st_fs1.trans (fs_sends (O := owedO c 0 t + owedO c 1 t) 1 h2 (by rw [owedD_split 1 h2]; ac_rfl)
      (slot_of_off rfl _ (off10_eq t)) (slot_of_off rfl _ (off9_eq t)) (Fin.ext (val5 c)) (sem_send 1 0 _ (off7_eq t)) (sem_recv 1 0 _ (off8_eq t))
      (slot_of_off rfl _ (off10_eq t)) (slot_of_off rfl _ (off9_eq t)) (Fin.ext (val6 c)) (sem_send 1 1 _ (off11_eq t)) (sem_recv 1 1 _ (off12_eq t)) (fs1_st.trans hk))
  · intro h
    have h2 := mt (cond3_iff t).mpr h
    rw [if_neg h2, if_neg h2, if_neg h2, if_neg h2]
  -- the heads of the block from the left
  refine (st_heads0 (ones := ones)).trans ?_
  simp only [k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel,
    Prog.lift, Prog.bind_op, Prog.bind_ret, Prog.pure_eq_ret, bind_cond]
  iterate 16
    refine load_q (by decide) (by decide) ?_
    refine load_k (by decide) (by decide) rfl (load_slot t) rfl ?_
    refine load_v (by decide) (by decide) rfl (load_slot t) rfl ?_
    refine load_a (by decide) (by decide) (by decide) ?_
    refine load_a (by decide) (by decide) (by decide) ?_
    refine store_a (by decide) (by decide) (by decide) rfl ?_
  refine heads0_st.trans ?_
  -- the heads of the block from the right
  refine wp_split (st X K c Qb (owedO c 0 t + if t.val < 15 then owedO c 1 t else owedD c 1 t) (out c 0 t) (if t.val < 15 then out c 1 t else ring c 1 t) (blks X c 0 t kept) (blks X c 1 t (if t.val < 15 then kept else fullShare)) (accAt X c ones Qb (t + 1))) ?_ ?_ ?_
  rotate_left
  · intro h hk
    simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel,
      Prog.lift, Prog.bind_op, Prog.bind_ret, Prog.pure_eq_ret]
    refine (st_heads1 (ones := ones)).trans ?_
    iterate 16
      refine load_q (by decide) (by decide) ?_
      refine load_k (by decide) (by decide) rfl (load_slot t) rfl ?_
      refine load_v (by decide) (by decide) rfl (load_slot t) rfl ?_
      refine load_a (by decide) (by decide) (by decide) ?_
      refine load_a (by decide) (by decide) (by decide) ?_
      refine store_a (by decide) (by decide) (by decide) rfl ?_
    exact (heads1_st.trans (Entails.of_eq (by rw [accAt_both ((cond4_iff t).mp h)]))).trans hk
  · intro h
    rw [accAt_one (mt (cond4_iff t).mpr h)]
  -- the waits for the copies to the right
  simp only [k0_part26_eq_skeleton, k0_part26_skel, k0_part12_eq_skeleton, k0_part12_skel, Prog.lift, Prog.bind_op, Prog.bind_ret, Prog.pure_eq_ret, semSignalWord, bind_cond]
  have aO : Above (2 * t.val + 2) (if t.val < 15 then owedO c 1 t else owedD c 1 t) := by
    by_cases h2 : t.val < 15
    · rw [if_pos h2]; exact owedO_above 1 h2
    · rw [if_neg h2, owedD_end c 1 (by show 15 ≤ t.val; omega)]; exact Above.zero _
  refine st_fs0.trans (fs_waits 0 hS0 ((owedO_above 0 hS0).add aO) (fun _ => rfl) (fun _ => rfl) (fun _ => rfl) (fun _ => rfl)
    (sem_send 0 0 _ (off1_eq t)) (sem_recv 0 0 _ (off2_eq t)) (sem_send 0 1 _ (off5_eq t)) (sem_recv 0 1 _ (off6_eq t))
    (credit_of_off 0 0 _ rfl (off4_eq t)) (credit_of_off 0 0 _ rfl (off3_eq t)) (credit_of_off 0 1 _ rfl (off4_eq t)) (credit_of_off 0 1 _ rfl (off3_eq t)) (fs0_st.trans ?_))
  -- the waits for the copies to the left
  refine wp_split (st X K c Qb (owedO c 0 t + if t.val < 15 then owedO c 1 t else owedD c 1 t) (done c 0 t) (if t.val < 15 then done c 1 t else ring c 1 t) (blks X c 0 (t + 1) fullShare) (blks X c 1 (min (t + 1) 15) fullShare) (accAt X c ones Qb (t + 1))) ?_ ?_ ?_
  rotate_left
  · intro h hk
    have h2 := (cond5_iff t).mp h
    rw [if_pos h2, if_pos h2, show min (t.val + 1) 15 = t.val + 1 by omega] at hk
    rw [if_pos h2] at aO
    rw [show min (t.val + 1) 15 = t.val + 1 by omega, if_pos h2, if_pos h2, if_pos h2]
    exact st_fs1.trans (fs_waits 1 h2 ((owedO_above 0 hS0).add aO) (fun _ => rfl) (fun _ => rfl) (fun _ => rfl) (fun _ => rfl)
      (sem_send 1 0 _ (off45_eq t)) (sem_recv 1 0 _ (off48_eq t)) (sem_send 1 1 _ (off49_eq t)) (sem_recv 1 1 _ (off50_eq t))
      (credit_of_off 1 0 _ rfl (off46_eq t)) (credit_of_off 1 0 _ rfl (off47_eq t)) (credit_of_off 1 1 _ rfl (off46_eq t)) (credit_of_off 1 1 _ rfl (off47_eq t)) (fs1_st.trans hk))
  · intro h
    have h2 := mt (cond5_iff t).mpr h
    rw [if_neg h2, if_neg h2, if_neg h2, if_neg h2, show min (t.val + 1) 15 = t.val by omega]
  -- the leave given back to the left
  refine wp_split (st X K c Qb (owedD c 0 (t + 1) + if t.val < 15 then owedO c 1 t else owedD c 1 t) (ring c 0 (t + 1)) (if t.val < 15 then done c 1 t else ring c 1 t) (blks X c 0 (t + 1) fullShare) (blks X c 1 (min (t + 1) 15) fullShare) (accAt X c ones Qb (t + 1))) ?_ ?_ ?_
  rotate_left
  · intro h hk
    have h2 := (cond6_iff t).mp h
    exact st_fs0.trans (fs_back 0 (by show t.val + 1 < 16; omega) rfl (Fin.ext (val7 c)) rfl (by unfold owedO; ac_rfl) (fs0_st.trans hk))
  · intro h
    have h2 := mt (cond6_iff t).mpr h
    have e : owedO c 0 t.val = owedD c 0 (t.val + 1) := by
      unfold owedO credOwe; rw [if_neg (show ¬t.val + 1 < S 0 by rw [S_zero]; omega), add_zero]
    rw [e]
    exact st_mono0 (step_last c 0 (by show t.val + 1 = 16; omega))
  -- the leave given back to the right
  refine wp_split (st X K c Qb (owedD c 0 (t + 1) + owedD c 1 (min (t + 1) 15)) (ring c 0 (t + 1)) (ring c 1 (min (t + 1) 15)) (blks X c 0 (t + 1) fullShare) (blks X c 1 (min (t + 1) 15) fullShare) (accAt X c ones Qb (t + 1))) ?_ ?_ ?_
  · exact wp_done c _ _
  · intro h hk
    have h2 := (cond7_iff t).mp h
    have h3 : t.val < 15 := by omega
    rw [show min (t.val + 1) 15 = t.val + 1 by omega] at hk ⊢
    rw [if_pos h3, if_pos h3]
    exact st_fs1.trans (fs_back 1 (by show t.val + 1 < 15; omega) rfl (Fin.ext (val8 c)) rfl (by unfold owedO; ac_rfl) (fs1_st.trans hk))
  · intro h
    have h2 := mt (cond7_iff t).mpr h
    by_cases h3 : t.val < 15
    · rw [if_pos h3, if_pos h3, show min (t.val + 1) 15 = t.val + 1 by omega]
      have e : owedO c 1 t.val = owedD c 1 (t.val + 1) := by
        unfold owedO credOwe; rw [if_neg (show ¬t.val + 1 < S 1 by rw [S_one]; omega), add_zero]
      rw [e]
      exact st_mono1 (step_last c 1 (by show t.val + 1 = 15; omega))
    · rw [if_neg h3, if_neg h3, show min (t.val + 1) 15 = t.val by omega]

end Ring
-- ==== Proof.Whole.lean ====
/-
  The loads and stores that are not of one head's accumulation: of a buffer whole, of a slot whole, and of the result's
  heads.
-/
module

public import proofs.«01_k».proof.Proof.Stages
public import Idealize.ShloMosaic.Lib.VecWindow

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] {c : Dev nD} {α : Type} {Q : α → sProp (𝕄 F)}

/-- A buffer of device c held at contents x. -/
abbrev own (c : Dev nD) {s : Shape} {e : EltTy} (a : Memref sig .tc .vmem s e) (x : s.Idx → Elt F e) : sProp (𝕄 F) :=
  owns (c : Thread nD τ) a fullShare x

/-! ## A buffer whole -/

theorem load_own {s : Shape} {e : EltTy} {a : Memref sig .tc .vmem s e} {x : s.Idx → Elt F e} {off : Fin s.rank → ℕ}
    {inb : ∀ i, off i + s.size i ≤ s.size i} {hl : a.view.LoadsAt (Rect.unit off s.size inb).toLoadRect}
    {k : Vec F s e → Prog (TpuEff nD τ sig (Elt F) Λ₀ .tc) α} :
    own c a x ⊢ iprop((own c a x -∗ WP c (k x) Q) -∗ WP c (.op (.load a (Rect.unit off s.size inb).toLoadRect hl) k) Q) := by
  unfold own owns
  iintro ⟨%f, %hf, H⟩ Hk
  iapply (wp_load 𝒱₀ (c : Thread nD τ) none Set.univ (m := a) (View.setOn_subset_set _ _)) $$ H
  iintro H
  rw [View.readAt_full, hf]
  iapply Hk
  iexists f; isplitr; · ipureintro; exact hf
  iexact H

theorem store_own {s : Shape} {e : EltTy} {a : Memref sig .tc .vmem s e} {x w : s.Idx → Elt F e} {off : Fin s.rank → ℕ}
    {inb : ∀ i, off i + s.size i ≤ s.size i}
    {hx : (a.access (Rect.unit off s.size inb)).Stores Finset.univ}
    {hm : (Finset.univ : Finset (Rect.unit off s.size inb).shape.Idx) = Finset.univ ∨ ∀ i, (Rect.unit off s.size inb).stride i = 1}
    {k : PUnit → Prog (TpuEff nD τ sig (Elt F) Λ₀ .tc) α} :
    own c a x ⊢ iprop((own c a w -∗ WP c (k ⟨⟩) Q) -∗ WP c (.op (.store a (Rect.unit off s.size inb) w Finset.univ hx hm) k) Q) := by
  unfold own owns
  iintro ⟨%f, %hf, H⟩ Hk
  iapply (wp_store 𝒱₀ (c : Thread nD τ) none Set.univ (m := a) (r := Rect.unit off s.size inb) (f := f) (View.set_slice_subset _ _)) $$ H
  iintro H
  iapply Hk
  iexists _; isplitr
  swap; · iexact H
  ipureintro
  exact View.read_writes_full a.view f inb w []

/-! ## A slot whole -/

theorem slot_set (M : Memref sig .tc .vmem S2x2x8x256x64 .bf16) {inb : ∀ i, (![0, 0, 0, 0, 0] : Fin 5 → ℕ) i + S1x2x8x256x64.size i ≤ S2x2x8x256x64.size i} :
    (M.access (Rect.unit (s := S2x2x8x256x64) ![0, 0, 0, 0, 0] S1x2x8x256x64.size inb)).set = (slotOf M 0).view.set :=
  ((M.access (Rect.unit (s := S2x2x8x256x64) ![0, 0, 0, 0, 0] S1x2x8x256x64.size inb)).set_reshape
    Facts₀.squeezes_S1x2x8x256x64_S2x8x256x64.numel_eq).symm

theorem load_slot0 (d b : Fin 2) {M : Memref sig .tc .vmem S2x2x8x256x64 .bf16} (hM : M = buf d b)
    {inb : ∀ i, (![0, 0, 0, 0, 0] : Fin 5 → ℕ) i + S1x2x8x256x64.size i ≤ S2x2x8x256x64.size i}
    {hl : M.view.LoadsAt (Rect.unit (s := S2x2x8x256x64) ![0, 0, 0, 0, 0] S1x2x8x256x64.size inb).toLoadRect}
    {k : Vec F S1x2x8x256x64 .bf16 → Prog (TpuEff nD τ sig (Elt F) Λ₀ .tc) α} :
    slotAny d b 0 c ⊢ iprop((∀ v, slotAny d b 0 c -∗ WP c (k v) Q)
      -∗ WP c (.op (.load M (Rect.unit (s := S2x2x8x256x64) ![0, 0, 0, 0, 0] S1x2x8x256x64.size inb).toLoadRect hl) k) Q) := by
  subst hM
  unfold slotAny slotPts
  iintro ⟨%x, %f, %hf, H⟩ Hk
  iapply (wp_load_rect 𝒱₀ (c : Thread nD τ) none Set.univ (m := buf d b) (Finset.Subset.trans (Finset.Subset.refl _) (slot_set (buf d b)).subset)) $$ H
  iintro H
  iapply Hk
  iexists x, f; isplitr; · ipureintro; exact hf
  iexact H

theorem store_slot0 (d b : Fin 2) {M : Memref sig .tc .vmem S2x2x8x256x64 .bf16} (hM : M = buf d b) {x : Blk F}
    {inb : ∀ i, (![0, 0, 0, 0, 0] : Fin 5 → ℕ) i + S1x2x8x256x64.size i ≤ S2x2x8x256x64.size i} {w : Vec F S1x2x8x256x64 .bf16} (hw : w = k0_pay64 x)
    {hx : (M.access (Rect.unit (s := S2x2x8x256x64) ![0, 0, 0, 0, 0] S1x2x8x256x64.size inb)).Stores Finset.univ}
    {hm : (Finset.univ : Finset (Rect.unit (s := S2x2x8x256x64) ![0, 0, 0, 0, 0] S1x2x8x256x64.size inb).shape.Idx) = Finset.univ
      ∨ ∀ i, (Rect.unit (s := S2x2x8x256x64) ![0, 0, 0, 0, 0] S1x2x8x256x64.size inb).stride i = 1}
    {k : PUnit → Prog (TpuEff nD τ sig (Elt F) Λ₀ .tc) α} :
    slotAny d b 0 c ⊢ iprop((slotPts d b 0 c fullShare x -∗ WP c (k ⟨⟩) Q)
      -∗ WP c (.op (.store M (Rect.unit (s := S2x2x8x256x64) ![0, 0, 0, 0, 0] S1x2x8x256x64.size inb) w Finset.univ hx hm) k) Q) := by
  subst hM hw
  unfold slotAny slotPts
  iintro ⟨%y, %f, %hf, H⟩ Hk
  iapply (wp_store 𝒱₀ (c : Thread nD τ) none Set.univ (m := buf d b) (r := Rect.unit (s := S2x2x8x256x64) ![0, 0, 0, 0, 0] S1x2x8x256x64.size inb) (f := f)
    (slot_set (buf d b)).subset) $$ H
  iintro H
  iapply Hk
  iexists _; isplitr
  swap; · iexact H
  ipureintro
  have h := View.read_write_univ (v := (buf d b).access (Rect.unit (s := S2x2x8x256x64) ![0, 0, 0, 0, 0] S1x2x8x256x64.size inb)) f (k0_pay64 x)
  funext i
  refine (congrFun h (Shape.reshapeEquiv Facts₀.squeezes_S1x2x8x256x64_S2x8x256x64.numel_eq i)).trans ?_
  unfold k0_pay64
  simp [shapeCast, Shape.reshapeEquiv_reshapeEquiv, Shape.reshapeEquiv_self]

/-! ## The queries and the accumulators, filled -/

/-- The queries' buffer and the accumulators', at contents not chosen. -/
def anyQ (c : Dev nD) : sProp (𝕄 F) := iprop(∃ x, own c (Memref.whole cc0_scratch0) x)
def anyA (c : Dev nD) : sProp (𝕄 F) := iprop(∃ x, own c (Memref.whole cc0_scratch5) x)

theorem own_qb (c : Dev nD) (x : Blk F) : own c (Memref.whole cc0_scratch0) x ⊢ qbPts c x := by
  unfold own owns qbPts
  iintro ⟨%f, %hf, H⟩
  iexists f; isplitr; · ipureintro; exact hf
  rw [show (Memref.whole cc0_scratch0).view.set = Finset.univ from View.set_whole _]
  iexact H
theorem qb_any (c : Dev nD) (x : Blk F) : qbPts c x ⊢ anyQ c := by
  unfold anyQ own owns qbPts
  iintro ⟨%f, %hf, H⟩
  iexists x, f; isplitr; · ipureintro; exact hf
  rw [show (Memref.whole cc0_scratch0).view.set = Finset.univ from View.set_whole _]
  iexact H
theorem own_acc (c : Dev nD) (x : S2x8x256x128.Idx → Elt F .f32) : own c (Memref.whole cc0_scratch5) x ⊢ accPts c (pickA x) := by
  unfold own owns accPts
  iintro ⟨%f, %hf, H⟩
  iexists f; isplitr
  · ipureintro; intro b h _ _; rw [hf]
  rw [show (Memref.whole cc0_scratch5).view.set = Finset.univ from View.set_whole _]
  iexact H
theorem acc_any (c : Dev nD) (A : ℕ → ℕ → Vec F S1x1x256x128 .f32) : accPts c A ⊢ anyA c := by
  unfold anyA own owns accPts
  iintro ⟨%f, %hf, H⟩
  iexists _, f; isplitr; · ipureintro; rfl
  rw [show (Memref.whole cc0_scratch5).view.set = Finset.univ from View.set_whole _]
  iexact H

/-! ## The result's heads -/

/-- The result with n heads written. -/
def outPts (c : Dev nD) (a : Memref sig .tc .vmem S2x8x256x64 .f32) (n : ℕ) (A : ℕ → ℕ → Vec F S1x1x256x128 .f32) : sProp (𝕄 F) :=
  iprop(∃ x, ⌜∀ b h, b < 2 → h < 8 → 8 * b + h < n → pickQ x b h = k0_pay103 (A b h)⌝ ∗ own c a x)
/-- The result whole. -/
def fin (A : ℕ → ℕ → Vec F S1x1x256x128 .f32) : S2x8x256x64.Idx → Elt F .f32 :=
  fun i => k0_pay103 (A (i 0).val (i 1).val) (fun a => ⟨(![0, 0, (i 2).val, (i 3).val] : Fin 4 → ℕ) a, by
    fin_cases a
    · exact Nat.one_pos
    · exact Nat.one_pos
    · exact (i 2).isLt
    · exact (i 3).isLt⟩)

/-- What the result's heads are run at. -/
def OS (c : Dev nD) (a : Memref sig .tc .vmem S2x8x256x64 .f32) (n : ℕ) (A : ℕ → ℕ → Vec F S1x1x256x128 .f32) (R : sProp (𝕄 F)) : sProp (𝕄 F) :=
  iprop(accPts c A ∗ outPts c a n A ∗ R)

theorem out_all (c : Dev nD) (a : Memref sig .tc .vmem S2x8x256x64 .f32) (A : ℕ → ℕ → Vec F S1x1x256x128 .f32) :
    outPts c a 16 A ⊢ own c a (fin A) := by
  unfold outPts
  iintro ⟨%x, %hx, H⟩
  rw [show fin A = x from ?_]
  · iexact H
  funext i
  have h0 : (i 0).val < 2 := (i 0).isLt
  have h1 : (i 1).val < 8 := (i 1).isLt
  unfold fin
  rw [← hx (i 0).val (i 1).val h0 h1 (by omega)]
  unfold pickQ
  congr 1
  funext a
  apply Fin.ext
  rw [Rect.emb_apply]
  fin_cases a <;> simp [Rect.unit, Nat.mod_eq_of_lt h0, Nat.mod_eq_of_lt h1]

variable {a : Memref sig .tc .vmem S2x8x256x64 .f32} {n : ℕ} {A : ℕ → ℕ → Vec F S1x1x256x128 .f32} {R : sProp (𝕄 F)}

theorem load_acc {b h : ℕ} (hb : b < 2) (hh : h < 8) {inb : ∀ i, (![b, h, 0, 0] : Fin 4 → ℕ) i + S1x1x256x128.size i ≤ S2x8x256x128.size i}
    {hl : (Memref.whole cc0_scratch5).view.LoadsAt (Rect.unit (s := S2x8x256x128) ![b, h, 0, 0] S1x1x256x128.size inb).toLoadRect}
    {k : Vec F S1x1x256x128 .f32 → Prog (TpuEff nD τ sig (Elt F) Λ₀ .tc) α} (hk : OS c a n A R ⊢ WP c (k (A b h)) Q) :
    OS c a n A R ⊢ WP c (.op (.load (Memref.whole cc0_scratch5) (Rect.unit (s := S2x8x256x128) ![b, h, 0, 0] S1x1x256x128.size inb).toLoadRect hl) k) Q := by
  unfold OS accPts at *
  iintro ⟨⟨%f, %hf, Ha⟩, Hr⟩
  iapply (wp_load 𝒱₀ (c : Thread nD τ) none Set.univ (Finset.subset_univ _)) $$ Ha
  iintro Ha
  rw [readA (c := c) f hb hh, hf b h hb hh]
  iapply hk
  isplitl [Ha]
  · iexists f; isplitr; · ipureintro; exact hf
    iexact Ha
  iexact Hr

theorem load_out {r : LoadRect S2x8x256x64} {hl : a.view.LoadsAt r}
    {k : Vec F r.shape .f32 → Prog (TpuEff nD τ sig (Elt F) Λ₀ .tc) α} (hk : ∀ v, OS c a n A R ⊢ WP c (k v) Q) :
    OS c a n A R ⊢ WP c (.op (.load a r hl) k) Q := by
  unfold OS outPts own owns at *
  iintro ⟨Ha, ⟨%x, %hx, %f, %hf, H⟩, Hr⟩
  iapply (wp_load 𝒱₀ (c : Thread nD τ) none Set.univ (m := a) (View.setOn_subset_set _ _)) $$ H
  iintro H
  iapply (hk _)
  isplitl [Ha]; · iexact Ha
  isplitl [H]
  · iexists x; isplitr; · ipureintro; exact hx
    iexists f; isplitr; · ipureintro; exact hf
    iexact H
  iexact Hr

theorem pick_out (f : a.view.ty.Contents (Elt F)) {b h : ℕ} (hb : b < 2) (hh : h < 8)
    {inb : ∀ i, (![b, h, 0, 0] : Fin 4 → ℕ) i + S1x1x256x64.size i ≤ S2x8x256x64.size i} (w : Vec F S1x1x256x64 .f32)
    (b' h' : ℕ) (hb' : b' < 2) (hh' : h' < 8) :
    pickQ (a.view.read (Elt F) ((a.access (Rect.unit (s := S2x8x256x64) ![b, h, 0, 0] S1x1x256x64.size inb)).write (Elt F) f w Finset.univ)) b' h'
      = if b' = b ∧ h' = h then w else pickQ (a.view.read (Elt F) f) b' h' := by
  have e : (![b, h, 0, 0] : Fin 4 → ℕ) = ![b % 2, h % 8, 0, 0] := by rw [Nat.mod_eq_of_lt hb, Nat.mod_eq_of_lt hh]
  revert inb; rw [e]; intro inb
  split
  next hbh =>
    obtain ⟨rfl, rfl⟩ := hbh
    exact View.read_write_univ (v := a.access (Rect.unit (s := S2x8x256x64) ![b' % 2, h' % 8, 0, 0] S1x1x256x64.size inb)) f w
  next hbh =>
    unfold pickQ
    funext i
    rw [View.read_apply, View.read_apply, View.write_of_not_mem]
    intro hm
    obtain ⟨x, -, hx⟩ := Finset.mem_map.mp hm
    have hx' : (Rect.unit (s := S2x8x256x64) ![b % 2, h % 8, 0, 0] S1x1x256x64.size inb).emb x
        = (Rect.unit (s := S2x8x256x64) ![b' % 2, h' % 8, 0, 0] S1x1x256x64.size (q_inb b' h')).emb i := a.view.emb.injective hx
    have h0 := congrArg (fun z : S2x8x256x64.Idx => (z 0).val) hx'
    have h1 := congrArg (fun z : S2x8x256x64.Idx => (z 1).val) hx'
    have x0 : (x 0).val < 1 := (x 0).isLt
    have x1 : (x 1).val < 1 := (x 1).isLt
    have i0 : (i 0).val < 1 := (i 0).isLt
    have i1 : (i 1).val < 1 := (i 1).isLt
    have h0' : b % 2 + 1 * (x 0).val = b' % 2 + 1 * (i 0).val := h0
    have h1' : h % 8 + 1 * (x 1).val = h' % 8 + 1 * (i 1).val := h1
    exact hbh ⟨by omega, by omega⟩

theorem store_out {b h : ℕ} (hb : b < 2) (hh : h < 8) (hn : n = 8 * b + h) {inb : ∀ i, (![b, h, 0, 0] : Fin 4 → ℕ) i + S1x1x256x64.size i ≤ S2x8x256x64.size i}
    {w : Vec F S1x1x256x64 .f32} (hw : w = k0_pay103 (A b h))
    {hx : (a.access (Rect.unit (s := S2x8x256x64) ![b, h, 0, 0] S1x1x256x64.size inb)).Stores Finset.univ}
    {hm : (Finset.univ : Finset (Rect.unit (s := S2x8x256x64) ![b, h, 0, 0] S1x1x256x64.size inb).shape.Idx) = Finset.univ
      ∨ ∀ i, (Rect.unit (s := S2x8x256x64) ![b, h, 0, 0] S1x1x256x64.size inb).stride i = 1}
    {k : PUnit → Prog (TpuEff nD τ sig (Elt F) Λ₀ .tc) α} (hk : OS c a (n + 1) A R ⊢ WP c (k ⟨⟩) Q) :
    OS c a n A R ⊢ WP c (.op (.store a (Rect.unit (s := S2x8x256x64) ![b, h, 0, 0] S1x1x256x64.size inb) w Finset.univ hx hm) k) Q := by
  subst hw hn
  unfold OS outPts own owns at *
  iintro ⟨Ha, ⟨%x, %hx', %f, %hf, H⟩, Hr⟩
  iapply (wp_store 𝒱₀ (c : Thread nD τ) none Set.univ (m := a) (r := Rect.unit (s := S2x8x256x64) ![b, h, 0, 0] S1x1x256x64.size inb) (f := f)
    (View.set_slice_subset _ _)) $$ H
  iintro H
  iapply hk
  isplitl [Ha]; · iexact Ha
  isplitl [H]
  · iexists _; isplitr
    swap
    · iexists _; isplitr
      swap; · iexact H
      ipureintro; rfl
    ipureintro
    intro b' h' hb' hh' hlt
    rw [pick_out f hb hh _ b' h' hb' hh', hf]
    by_cases hbh : b' = b ∧ h' = h
    · obtain ⟨rfl, rfl⟩ := hbh
      rw [if_pos ⟨rfl, rfl⟩]
    · rw [if_neg hbh]
      exact hx' b' h' hb' hh' (by omega)
  iexact Hr

/-! ## A cell closed -/

theorem close_cell {X : Fin 2 → Dev nD → Blk F} {K : GSem nD τ sig → ℕ} (c : Dev nD) (ρ : Role) (r : ℕ) (h : ∀ r', r ≤ r' → dut ρ r' = ∅) :
    iprop(Inv X K ∗ at' c ρ r) ⊢ |={Set.univ}=> semVal (cell c ρ) 0 := by
  unfold at'
  iintro ⟨#HI, Ha, -⟩
  ihave #HI1 := (Inv_cell X K c ρ) $$ HI
  iapply (Rounds.cell_close ER (Rd X) (Set.mem_univ (K (cell c ρ))) id (fun r' hr => (duties_cell X c ρ r').trans (h r' hr)))
  isplitr; · iexact HI1
  iexact Ha

end Ring
-- ==== Proof.Start.lean ====
/-
  The kernel's body, run once at a device not chosen: the two signals and the wait at the start, the blocks laid in the
  slots, the loop over the ring, the last block's heads, the result's heads, and every counter closed.
-/
module

public import proofs.«01_k».proof.Proof.Loop
public import proofs.«01_k».proof.Proof.Whole

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] (X : Fin 2 → Dev nD → Blk F) (K : GSem nD τ sig → ℕ) (c : Dev nD)

/-- The body, as it is printed. -/
abbrev cbody (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole) :=
  cc0_body (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9

/-! ## What a device is run at, and what it gives back -/

/-- The accumulators at the end, and the result. -/
def accEnd (Qv : S2x8x256x64.Idx → Elt F .f32) : ℕ → ℕ → Vec F S1x1x256x128 .f32 :=
  headV (k0_pay68 (F := F)) (k0_pay63 Qv) (X 0 (pvn 0 16 c)) (X 1 (pvn 0 16 c)) (accAt X c (k0_pay68 (F := F)) (k0_pay63 Qv) 16)
def res (Qv : S2x8x256x64.Idx → Elt F .f32) : S2x8x256x64.Idx → Elt F .f32 := fin (accEnd X c Qv)

/-- A direction's cells at their first rounds, and its tokens. -/
def first (d : Fin 2) : sProp (𝕄 F) := iprop(marks c d 0 0 ∗ marks c d 0 1 ∗ at' c (.cred d) 0 ∗ kits c d 0)
/-- The duty of the signal that tells the neighbour behind that it may copy. -/
def bars (d : Fin 2) : sProp (𝕄 F) := iprop(dutyTok ER (cell (pv d c) .bar) 0 d ∗ reached ER (cell (pv d c) .bar) 0)
/-- A direction's slots, at contents not chosen. -/
def slots (d : Fin 2) : sProp (𝕄 F) := iprop(slotAny d 0 0 c ∗ slotAny d 0 1 c ∗ slotAny d 1 0 c ∗ slotAny d 1 1 c)
/-- What is owed at the start. -/
def O₀ : CellTallies nD τ sig ℕ := owedD c 0 0 + owedD c 1 0 + tallyAt (cell (pv 1 c) .bar) 1 1 + tallyAt (cell (pv 0 c) .bar) 1 1
/-- Something of each of one direction's cells. -/
def cells (Φ : Role → sProp (𝕄 F)) (d : Fin 2) : sProp (𝕄 F) :=
  iprop((Φ (.send d 0 0) ∗ Φ (.recv d 0 1) ∗ Φ (.send d 0 1) ∗ Φ (.recv d 0 0))
    ∗ (Φ (.send d 1 0) ∗ Φ (.recv d 1 1) ∗ Φ (.send d 1 1) ∗ Φ (.recv d 1 0)) ∗ Φ (.cred d))
abbrev zeros (d : Fin 2) : sProp (𝕄 F) := cells (fun ρ => semVal (cell c ρ) 0) d

theorem ended_send {d b j : Fin 2} {n : ℕ} (h : S d ≤ 2 * n + j.val) (r : ℕ) (hr : n ≤ r) : dut (.send d b j) r = ∅ := if_neg (by omega)
theorem ended_recv {d b j : Fin 2} {n : ℕ} (h : S d + j.val ≤ 2 * n + 1) (r : ℕ) (hr : n ≤ r) : dut (.recv d b j) r = ∅ := if_neg (by omega)
theorem ended_cred {d : Fin 2} {n : ℕ} (h : S d ≤ n + 1) (r : ℕ) (hr : n ≤ r) : dut (.cred d) r = ∅ := if_neg (by omega)

theorem close_ring0 : iprop(Inv X K ∗ ring c 0 16) ⊢ (|={Set.univ}=> iprop(zeros c 0 ∗ slotAny 0 0 1 c ∗ slotAny 0 1 1 c) : sProp (𝕄 F)) := by
  unfold ring marks rest zeros cells
  rw [if_neg (by decide), if_pos S_zero.symm]
  iintro ⟨#HI, ⟨H1, H2, H3, H4⟩, ⟨H5, H6, H7, H8⟩, H9, -, -, Hs⟩
  imod (close_cell (X := X) (K := K) c (.send 0 0 0) 8 (ended_send (by decide))) $$ [H1] with H1
  · isplitr; · iexact HI
    iexact H1
  imod (close_cell (X := X) (K := K) c (.recv 0 0 1) 8 (ended_recv (by decide))) $$ [H2] with H2
  · isplitr; · iexact HI
    iexact H2
  imod (close_cell (X := X) (K := K) c (.send 0 0 1) 8 (ended_send (by decide))) $$ [H3] with H3
  · isplitr; · iexact HI
    iexact H3
  imod (close_cell (X := X) (K := K) c (.recv 0 0 0) 8 (ended_recv (by decide))) $$ [H4] with H4
  · isplitr; · iexact HI
    iexact H4
  imod (close_cell (X := X) (K := K) c (.send 0 1 0) 8 (ended_send (by decide))) $$ [H5] with H5
  · isplitr; · iexact HI
    iexact H5
  imod (close_cell (X := X) (K := K) c (.recv 0 1 1) 8 (ended_recv (by decide))) $$ [H6] with H6
  · isplitr; · iexact HI
    iexact H6
  imod (close_cell (X := X) (K := K) c (.send 0 1 1) 8 (ended_send (by decide))) $$ [H7] with H7
  · isplitr; · iexact HI
    iexact H7
  imod (close_cell (X := X) (K := K) c (.recv 0 1 0) 8 (ended_recv (by decide))) $$ [H8] with H8
  · isplitr; · iexact HI
    iexact H8
  imod (close_cell (X := X) (K := K) c (.cred 0) 15 (ended_cred (by decide))) $$ [H9] with H9
  · isplitr; · iexact HI
    iexact H9
  imodintro
  isplitr [Hs]
  swap; · iexact Hs
  isplitl [H1 H2 H3 H4]
  · isplitl [H1]; · iexact H1
    isplitl [H2]; · iexact H2
    isplitl [H3]; · iexact H3
    iexact H4
  isplitr [H9]
  swap; · iexact H9
  isplitl [H5]; · iexact H5
  isplitl [H6]; · iexact H6
  isplitl [H7]; · iexact H7
  iexact H8
theorem close_ring1 : iprop(Inv X K ∗ ring c 1 15) ⊢ (|={Set.univ}=> iprop(zeros c 1 ∗ slotAny 1 0 0 c ∗ slotAny 1 1 0 c) : sProp (𝕄 F)) := by
  unfold ring marks rest zeros cells
  rw [if_neg (by decide), if_pos S_one.symm]
  iintro ⟨#HI, ⟨H1, H2, H3, H4⟩, ⟨H5, H6, H7, H8⟩, H9, -, -, Hs⟩
  imod (close_cell (X := X) (K := K) c (.send 1 0 1) 7 (ended_send (by decide))) $$ [H1] with H1
  · isplitr; · iexact HI
    iexact H1
  imod (close_cell (X := X) (K := K) c (.recv 1 0 0) 7 (ended_recv (by decide))) $$ [H2] with H2
  · isplitr; · iexact HI
    iexact H2
  imod (close_cell (X := X) (K := K) c (.send 1 0 0) 8 (ended_send (by decide))) $$ [H3] with H3
  · isplitr; · iexact HI
    iexact H3
  imod (close_cell (X := X) (K := K) c (.recv 1 0 1) 8 (ended_recv (by decide))) $$ [H4] with H4
  · isplitr; · iexact HI
    iexact H4
  imod (close_cell (X := X) (K := K) c (.send 1 1 1) 7 (ended_send (by decide))) $$ [H5] with H5
  · isplitr; · iexact HI
    iexact H5
  imod (close_cell (X := X) (K := K) c (.recv 1 1 0) 7 (ended_recv (by decide))) $$ [H6] with H6
  · isplitr; · iexact HI
    iexact H6
  imod (close_cell (X := X) (K := K) c (.send 1 1 0) 8 (ended_send (by decide))) $$ [H7] with H7
  · isplitr; · iexact HI
    iexact H7
  imod (close_cell (X := X) (K := K) c (.recv 1 1 1) 8 (ended_recv (by decide))) $$ [H8] with H8
  · isplitr; · iexact HI
    iexact H8
  imod (close_cell (X := X) (K := K) c (.cred 1) 14 (ended_cred (by decide))) $$ [H9] with H9
  · isplitr; · iexact HI
    iexact H9
  imodintro
  isplitr [Hs]
  swap; · iexact Hs
  isplitl [H1 H2 H3 H4]
  · isplitl [H3]; · iexact H3
    isplitl [H4]; · iexact H4
    isplitl [H1]; · iexact H1
    iexact H2
  isplitr [H9]
  swap; · iexact H9
  isplitl [H7]; · iexact H7
  isplitl [H8]; · iexact H8
  isplitl [H5]; · iexact H5
  iexact H6

/-- The neighbour behind may copy: its slots here, and the cells they are announced at. -/
theorem give_perm (d : Fin 2) : iprop(slotAny d 0 1 c ∗ slotAny d 1 1 c ∗ first c d) ⊢ iprop(perm (F := F) (pv d c) d 0 ∗ first c d) := by
  unfold perm permB first marks at'
  rw [nx_pv]
  iintro ⟨Hs0, Hs1, ⟨Ha, ⟨Hb, #Hr0⟩, Hc⟩, ⟨Hd, ⟨He, #Hr1⟩, Hf⟩, Hg⟩
  isplitl [Hs0 Hs1]
  · isplitl [Hs0]
    · isplitl [Hs0]; · iexact Hs0
      iexact Hr0
    isplitl [Hs1]; · iexact Hs1
    iexact Hr1
  isplitl [Ha Hb Hc]
  · isplitl [Ha]; · iexact Ha
    isplitl [Hb]
    · isplitl [Hb]; · iexact Hb
      iexact Hr0
    iexact Hc
  isplitl [Hd He Hf]
  · isplitl [Hd]; · iexact Hd
    isplitl [He]
    · isplitl [He]; · iexact He
      iexact Hr1
    iexact Hf
  iexact Hg

theorem first_ring (d : Fin 2) : iprop(first c d ∗ perm c d 0) ⊢ (ring c d 0 : sProp (𝕄 F)) := by
  have h0 : ¬0 = S d := by have := two_le_S d; omega
  unfold first ring rest
  rw [if_pos rfl, if_neg h0]
  iintro ⟨⟨H0, H1, H2, H3⟩, H4⟩
  isplitl [H0]; · iexact H0
  isplitl [H1]; · iexact H1
  isplitl [H2]; · iexact H2
  isplitl [H3]; · iexact H3
  isplitl [H4]; · iexact H4
  iempintro

/-- What a device is run at. -/
def pre (a0 : Memref sig .tc .vmem S2x8x256x64 .f32) (a1 a2 : Memref sig .tc .vmem S2x8x256x64 .bf16) (a3 : Memref sig .tc .vmem S2x8x256x64 .f32)
    (Qv : S2x8x256x64.Idx → Elt F .f32) : sProp (𝕄 F) :=
  iprop(Inv X K ∗ levAts L lv ∗ owe c (O₀ c) ∗ (first c 0 ∗ first c 1) ∗ at' c .bar 0 ∗ cred (tallyAt (cell c .bar) 1 2) ∗ (bars c 0 ∗ bars c 1)
    ∗ (slots c 0 ∗ slots c 1) ∗ anyQ c ∗ anyA c ∗ own c a0 Qv ∗ own c a1 (X 0 c) ∗ own c a2 (X 1 c) ∗ ∃ y, own c a3 y)
/-- What a device gives back. -/
def post (a0 : Memref sig .tc .vmem S2x8x256x64 .f32) (a1 a2 : Memref sig .tc .vmem S2x8x256x64 .bf16) (a3 : Memref sig .tc .vmem S2x8x256x64 .f32)
    (Qv : S2x8x256x64.Idx → Elt F .f32) : sProp (𝕄 F) :=
  iprop(owe c 0 ∗ semVal (cell c .bar) 0 ∗ (zeros c 0 ∗ zeros c 1) ∗ (slots c 0 ∗ slots c 1) ∗ anyQ c ∗ anyA c
    ∗ own c a0 Qv ∗ own c a1 (X 0 c) ∗ own c a2 (X 1 c) ∗ own c a3 (res X c Qv))

variable {X K c}

theorem wp_here {α : Type} {Q : α → sProp (𝕄 F)} {P : sProp (𝕄 F)} {k : Dev nD → Prog (TpuEff nD τ sig (Elt F) Λ₀ .tc) α} (h : P ⊢ WP c (k c) Q) :
    P ⊢ WP c (.op .deviceId k) Q := h.trans (Entails.of_eq (wp_deviceId (defs := defs₀ (F := F)) 𝒱₀ (c : Thread nD τ) none Set.univ).symm)

/-- The loop, at the head of a longer program. -/
theorem wp_loop {α : Type} {Q : α → sProp (𝕄 F)} (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole)
    (v131 v194 : BitVec 32) {ones : FVec F S256x64 .bf16} {Qb : Blk F} {kk : Unit → Prog (TpuEff nD τ sig (Elt F) Λ₀ .tc) α} :
    inv X K c ones Qb 0 ⊢ iprop((inv X K c ones Qb 16 -∗ WP c (kk ()) Q) -∗ WP c (Scf.Loop.for k0_t1_loop Facts₀.k0_t1_ok ()
      (k0_t1_body (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v131 v194 ones 0#32) >>= kk) Q) := by
  iintro H Hk
  iapply (Scf.wp_for_bind frame (wpE (defs₀ (F := F)) 𝒱₀ (c : Thread nD τ) none) Set.univ k0_t1_loop.lb k0_t1_loop.ub k0_t1_loop.st Facts₀.k0_t1_ok ()
    (k0_t1_body (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v131 v194 ones 0#32)
    (fun k _ => inv X K c ones Qb k) (fun t _ => trip a0 h0 a1 h1 a2 h2 a3 h3 v131 v194 t)) $$ H
  iintro %_ H
  iapply Hk
  iapply (Entails.of_eq (show inv X K c ones Qb k0_t1_loop.trips = inv X K c ones Qb 16 by rw [trips_eq])) $$ H

theorem wp_loop_frame {α : Type} {Q : α → sProp (𝕄 F)} (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole)
    (v131 v194 : BitVec 32) {ones : FVec F S256x64 .bf16} {Qb : Blk F} {kk : Unit → Prog (TpuEff nD τ sig (Elt F) Λ₀ .tc) α} {R : sProp (𝕄 F)}
    (hk : iprop(inv X K c ones Qb 16 ∗ R) ⊢ WP c (kk ()) Q) :
    iprop(inv X K c ones Qb 0 ∗ R) ⊢ WP c (Scf.Loop.for k0_t1_loop Facts₀.k0_t1_ok ()
      (k0_t1_body (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v131 v194 ones 0#32) >>= kk) Q := by
  iintro ⟨H, HR⟩
  iapply (wp_loop (X := X) (K := K) a0 h0 a1 h1 a2 h2 a3 h3 v131 v194) $$ H
  iintro H
  iapply hk
  isplitl [H]; · iexact H
  iexact HR

end Ring
-- ==== Proof.Body.lean ====
/-
  The kernel's body, run once at a device not chosen.
-/
module

public import proofs.«01_k».proof.Proof.Start

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] {X : Fin 2 → Dev nD → Blk F} {K : GSem nD τ sig → ℕ} {c : Dev nD}
variable (a0 : Memref sig .tc .vmem S2x8x256x64 .f32) (h0 : a0.IsWhole) (a1 : Memref sig .tc .vmem S2x8x256x64 .bf16) (h1 : a1.IsWhole) (a2 : Memref sig .tc .vmem S2x8x256x64 .bf16) (h2 : a2.IsWhole) (a3 : Memref sig .tc .vmem S2x8x256x64 .f32) (h3 : a3.IsWhole)

/-! ## The words at the start -/

theorem words27 : ∃ f g h : Dev nD → BitVec 32, k0_part27 (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 = Prog.op .deviceId fun d => Prog.ret ⟨d, f d, g d, h d⟩ := ⟨_, _, _, rfl⟩
theorem words28 (w1 w2 w3 : BitVec 32) : ∃ r, k0_part28 (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 w1 w2 w3 = Prog.ret r := ⟨_, rfl⟩
theorem words29 (w1 : BitVec 32) (w2 : BitVec 1) : ∃ r, k0_part29 (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 w1 w2 = Prog.ret r := ⟨_, rfl⟩
theorem words30 (w1 w2 w3 w4 w5 : BitVec 32) (w6 : BitVec 1) (w7 : BitVec 32) : ∃ r, k0_part30 (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 w1 w2 w3 w4 w5 w6 w7 = Prog.ret r := ⟨_, rfl⟩
theorem words31 (w1 w2 w3 : BitVec 32) (w4 : BitVec 1) : ∃ r, k0_part31 (F := F) a0 h0 a1 h1 a2 h2 a3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 w1 w2 w3 w4 = Prog.ret r := ⟨_, rfl⟩

set_option maxHeartbeats 1000000 in
theorem run (Qv : S2x8x256x64.Idx → Elt F .f32) :
    pre X K c a0 a1 a2 a3 Qv ⊢ WP c (cbody a0 h0 a1 h1 a2 h2 a3 h3) (fun _ => post X c a0 a1 a2 a3 Qv) := by
  unfold cbody
  rw [cc0_body_eq_skeleton]
  unfold cc0_body_skel
  rw [k0_part49_eq_skeleton]
  unfold k0_part49_skel
  obtain ⟨f, g, h, e⟩ := words27 (F := F) a0 h0 a1 h1 a2 h2 a3 h3
  rw [e]
  simp only [Prog.bind_op, Prog.bind_ret]
  refine wp_here ?_
  obtain ⟨⟨v53, v68, v74, v75⟩, e⟩ := words28 (F := F) a0 h0 a1 h1 a2 h2 a3 h3 (f c) (g c) (h c)
  rw [e]
  simp only [Prog.bind_ret]
  obtain ⟨⟨v99, v101, v112, v113⟩, e⟩ := words29 (F := F) a0 h0 a1 h1 a2 h2 a3 h3 v68 v75
  rw [e]
  simp only [Prog.bind_ret]
  obtain ⟨⟨v131, v137, v145, w4, v146, v147⟩, e⟩ := words30 (F := F) a0 h0 a1 h1 a2 h2 a3 h3 v53 v68 v74 v99 v101 v112 v113
  rw [e]
  simp only [Prog.bind_ret]
  obtain ⟨⟨v180, v182, v183, v184, v185, w5⟩, e⟩ := words31 (F := F) a0 h0 a1 h1 a2 h2 a3 h3 v145 w4 v146 v147
  rw [e]
  simp only [Prog.bind_ret]
  simp only [k0_part32_eq_skeleton, k0_part32_skel, k0_part33_eq_skeleton, k0_part33_skel, k0_part34_eq_skeleton, k0_part34_skel, Prog.lift, Prog.bind_op, Prog.bind_ret, Prog.pure_eq_ret, bind_assoc, semWaitWord, semSignalWord]
  unfold pre bars slots anyQ anyA
  iintro ⟨#HI, #Hl, HO, ⟨Hf0, Hf1⟩, Hb, Hcb, ⟨⟨Ht0, #Hr0⟩, ⟨Ht1, #Hr1⟩⟩, ⟨⟨H000, H001, H010, H011⟩, ⟨H100, H101, H110, H111⟩⟩, ⟨%q0, Hq⟩, ⟨%x0, Ha⟩, W0, W1, W2, ⟨%y0, W3⟩⟩
  -- the neighbours behind may copy
  ihave H := (give_perm c 0) $$ [H001 H011 Hf0]
  · isplitl [H001]; · iexact H001
    isplitl [H011]; · iexact H011
    iexact Hf0
  icases H with ⟨Hp0, Hf0⟩
  ihave H := (give_perm c 1) $$ [H101 H111 Hf1]
  · isplitl [H101]; · iexact H101
    isplitl [H111]; · iexact H111
    iexact Hf1
  icases H with ⟨Hp1, Hf1⟩
  unfold O₀
  iapply (wp_signal_cell X K c (pv 0 c) .bar 0 1 0 (dev1_eq c) rfl (by decide) rfl (owedD c 0 0 + owedD c 1 0 + tallyAt (cell (pv 1 c) .bar) 1 1)) $$ [HO Ht0 Hp0]
  · isplitr; · iexact HI
    isplitl [HO]; · iexact HO
    isplitl [Ht0]; · iexact Ht0
    isplitl [Hp0]; · iapply (Entails.of_eq (pay_bar X (pv 0 c) 0 0).symm) $$ Hp0
    iexact Hr0
  iintro HO
  iapply (wp_signal_cell X K c (pv 1 c) .bar 0 1 1 (dev2_eq c) rfl (by decide) rfl (owedD c 0 0 + owedD c 1 0)) $$ [HO Ht1 Hp1]
  · isplitr; · iexact HI
    isplitl [HO]; · iexact HO
    isplitl [Ht1]; · iexact Ht1
    isplitl [Hp1]; · iapply (Entails.of_eq (pay_bar X (pv 1 c) 0 1).symm) $$ Hp1
    iexact Hr1
  iintro HO
  iapply (wp_wait_cell X K c .bar 0 1 1 (fun _ => rfl) rfl (by decide) le_rfl (by decide) ((owedD_above c 0 0).add (owedD_above c 1 0))) $$ [Hcb HO Hb]
  · isplitr; · iexact HI
    isplitr; · iexact Hl
    isplitl [Hcb]; · iexact Hcb
    isplitl [HO]; · iexact HO
    iexact Hb
  iintro ⟨HO, Hb, Hp⟩
  ihave Hp := (Entails.of_eq (show bigSep (dut .bar 0) (fun u => pay X c .bar 0 u) = iprop(perm c 0 0 ∗ perm c 1 0) from BI.bigSep_fin_two _)) $$ Hp
  icases Hp with ⟨Hp0, Hp1⟩
  ihave Hf0 := (first_ring c 0) $$ [Hf0 Hp0]
  · isplitl [Hf0]; · iexact Hf0
    iexact Hp0
  ihave Hf1 := (first_ring c 1) $$ [Hf1 Hp1]
  · isplitl [Hf1]; · iexact Hf1
    iexact Hp1
  -- the accumulators, the queries and the own blocks laid down
  iapply load_own $$ Ha
  iintro Ha
  iapply store_own $$ Ha
  iintro Ha
  iapply load_own $$ W0
  iintro W0
  iapply load_own $$ Hq
  iintro Hq
  iapply store_own $$ Hq
  iintro Hq
  iapply load_own $$ W1
  iintro W1
  iapply (load_slot0 0 0 rfl) $$ H000
  iintro %_ H000
  iapply (store_slot0 0 0 rfl rfl) $$ H000
  iintro H000
  iapply load_own $$ W2
  iintro W2
  iapply (load_slot0 0 1 rfl) $$ H010
  iintro %_ H010
  iapply (store_slot0 0 1 rfl rfl) $$ H010
  iintro H010
  iapply load_own $$ W1
  iintro W1
  iapply (load_slot0 1 0 rfl) $$ H100
  iintro %_ H100
  iapply (store_slot0 1 0 rfl rfl) $$ H100
  iintro H100
  iapply load_own $$ W2
  iintro W2
  iapply (load_slot0 1 1 rfl) $$ H110
  iintro %_ H110
  iapply (store_slot0 1 1 rfl rfl) $$ H110
  iintro H110
  ihave Hq := (own_qb c _) $$ Hq
  ihave Ha := (own_acc c _) $$ Ha
  -- the loop
  ihave H : iprop(inv X K c (k0_pay68 (F := F)) (k0_pay63 Qv) 0 ∗ (at' c .bar 1 ∗ own c a0 Qv ∗ own c a1 (X 0 c) ∗ own c a2 (X 1 c) ∗ own c a3 y0)) $$ [HO Hf0 Hf1 H000 H010 H100 H110 Hq Ha Hb W0 W1 W2 W3]
  · isplitl [HO Hf0 Hf1 H000 H010 H100 H110 Hq Ha]
    · unfold inv st
      isplitr; · iexact HI
      isplitr; · iexact Hl
      isplitl [HO]; · iexact HO
      isplitl [Hf0]; · iexact Hf0
      isplitl [Hf1]; · iexact Hf1
      isplitl [H000 H010]
      · isplitl [H000]; · iexact H000
        iexact H010
      isplitl [H100 H110]
      · isplitl [H100]; · iexact H100
        iexact H110
      isplitl [Hq]; · iexact Hq
      iexact Ha
    isplitl [Hb]; · iexact Hb
    isplitl [W0]; · iexact W0
    isplitl [W1]; · iexact W1
    isplitl [W2]; · iexact W2
    iexact W3
  iclear Hl HI Hr0 Hr1
  istop
  refine wp_loop_frame (X := X) (K := K) a0 h0 a1 h1 a2 h2 a3 h3 _ _ ?_
  -- the last block's heads
  simp only [k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, Prog.lift, Prog.bind_op, Prog.bind_ret, Prog.pure_eq_ret]
  refine BIBase.Entails.trans (Q := HS c 0 0 fullShare (k0_pay68 (F := F)) (k0_pay63 Qv) (X 0 (pvn 0 16 c)) (X 1 (pvn 0 16 c)) (accAt X c (k0_pay68 (F := F)) (k0_pay63 Qv) 16) 0
    iprop((Inv X K ∗ levAts L lv ∗ owe c (owedD c 0 16 + owedD c 1 15) ∗ ring c 0 16 ∗ ring c 1 15 ∗ blks X c 1 15 fullShare)
      ∗ (at' c .bar 1 ∗ own c a0 Qv ∗ own c a1 (X 0 c) ∗ own c a2 (X 1 c) ∗ own c a3 y0))) ?_ ?_
  · unfold inv st HS
    iintro ⟨⟨H0, H1, H2, H3, H4, ⟨H5, H6⟩, H7, H8, H9⟩, HR⟩
    isplitl [H8]; · iexact H8
    isplitl [H5]; · iexact H5
    isplitl [H6]; · iexact H6
    isplitl [H9]; · iapply (mix_zero _ _ _) $$ H9
    isplitr [HR]
    swap; · iexact HR
    isplitl [H0]; · iexact H0
    isplitl [H1]; · iexact H1
    isplitl [H2]; · iexact H2
    isplitl [H3]; · iexact H3
    isplitl [H4]; · iexact H4
    iexact H7
  generalize ho : k0_pay68 (F := F) = ones
  generalize hA : accAt X c ones (k0_pay63 Qv) 16 = A
  generalize hq : k0_pay63 Qv = Qb
  generalize hk : X 0 (pvn 0 16 c) = xk
  generalize hv : X 1 (pvn 0 16 c) = xv
  iterate 16
    refine load_q (by decide) (by decide) ?_
    refine load_k (by decide) (by decide) rfl (show 0 = (0 : Fin 2).val from rfl) rfl ?_
    refine load_v (by decide) (by decide) rfl (show 0 = (0 : Fin 2).val from rfl) rfl ?_
    refine load_a (by decide) (by decide) (by decide) ?_
    refine load_a (by decide) (by decide) (by decide) ?_
    refine store_a (by decide) (by decide) (by decide) rfl ?_
  -- the result's heads
  refine BIBase.Entails.trans (Q := OS c a3 0 (headV ones Qb xk xv A)
    iprop(qbPts c Qb ∗ (slotPts 0 0 0 c fullShare xk ∗ slotPts 0 1 0 c fullShare xv)
      ∗ (Inv X K ∗ levAts L lv ∗ owe c (owedD c 0 16 + owedD c 1 15) ∗ ring c 0 16 ∗ ring c 1 15 ∗ blks X c 1 15 fullShare)
      ∗ (at' c .bar 1 ∗ own c a0 Qv ∗ own c a1 (X 0 c) ∗ own c a2 (X 1 c)))) ?_ ?_
  · unfold HS OS outPts
    iintro ⟨H1, H2, H3, H4, H5, ⟨H6, H7, H8, H9, H10⟩⟩
    isplitl [H4]; · iapply (mix_all _ _ _) $$ H4
    isplitl [H10]
    · iexists y0; isplitr; · ipureintro; exact fun _ _ _ _ h => absurd h (Nat.not_lt_zero _)
      iexact H10
    isplitl [H1]; · iexact H1
    isplitl [H2 H3]
    · isplitl [H2]; · iexact H2
      iexact H3
    isplitl [H5]; · iexact H5
    isplitl [H6]; · iexact H6
    isplitl [H7]; · iexact H7
    isplitl [H8]; · iexact H8
    iexact H9
  iterate 16
    refine load_acc (by decide) (by decide) ?_
    refine load_out (fun _ => ?_)
    refine store_out (by decide) (by decide) (by decide) rfl ?_
  -- the counters closed
  subst hA hq hk hv ho
  unfold OS
  iintro ⟨H1, H2, H3, ⟨H4, H5⟩, ⟨#HI, -, HO, Hr0, Hr1, ⟨H6, H7⟩⟩, ⟨Hb, W0, W1, W2⟩⟩
  imod (close_ring0 X K c) $$ [Hr0] with ⟨Z0, S01, S11⟩
  · isplitr; · iexact HI
    iexact Hr0
  imod (close_ring1 X K c) $$ [Hr1] with ⟨Z1, T00, T10⟩
  · isplitr; · iexact HI
    iexact Hr1
  imod (close_cell (X := X) (K := K) c .bar 1 (fun r hr => if_neg (by omega))) $$ [Hb] with Zb
  · isplitr; · iexact HI
    iexact Hb
  iapply (wp_done c _ _)
  unfold post slots
  isplitl [HO]; · iapply (Entails.of_eq (show owe c (owedD c 0 16 + owedD c 1 15) = owe c 0 by rw [owedD_end c 0 (s := 16) (by decide), owedD_end c 1 (s := 15) (by decide), add_zero])) $$ HO
  isplitl [Zb]; · iexact Zb
  isplitl [Z0 Z1]
  · isplitl [Z0]; · iexact Z0
    iexact Z1
  isplitl [S01 S11 T00 T10 H4 H5 H6 H7]
  · isplitl [S01 S11 H4 H5]
    · isplitl [H4]; · iapply (slotPts_any 0 0 0 c _) $$ H4
      isplitl [S01]; · iexact S01
      isplitl [H5]; · iapply (slotPts_any 0 1 0 c _) $$ H5
      iexact S11
    isplitl [T00]; · iexact T00
    isplitl [H6]; · iapply (slotPts_any 1 0 (sl 15) c (X 0 (pvn 1 15 c))) $$ H6
    isplitl [T10]; · iexact T10
    iapply (slotPts_any 1 1 (sl 15) c (X 1 (pvn 1 15 c))) $$ H7
  isplitl [H3]; · iapply (qb_any c _) $$ H3
  isplitl [H1]; · iapply (acc_any c _) $$ H1
  isplitl [W0]; · iexact W0
  isplitl [W1]; · iexact W1
  isplitl [W2]; · iexact W2
  iapply (out_all c a3 _) $$ H2

end Ring
-- ==== Proof.Dealt.lean ====
/-
  What the launch deals: every cell's invariant, the tokens of the duties each device pays, and the credits of the units
  that others owe it.
-/
module

public import proofs.«01_k».proof.Proof.Start
public import Idealize.ShloMosaic.Lib.Pipeline.TalkSites
public import Idealize.ShloMosaic.Lib.Pipeline.RegionTalk

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F] (X : Fin 2 → Dev nD → Blk F)

/-! ## The cells and the tokens -/

/-- The roles whose semaphores are the region's own. -/
abbrev Own : Type := {ρ : Role // ρ ≠ .bar}
def osem (k : Own) : SemLoc sig := loc k.1
theorem loc_inj : Function.Injective loc := fun a b h => Option.some.inj ((role_loc a).symm.trans ((congrArg role h).trans (role_loc b)))
theorem osem_inj : Function.Injective osem := fun a b h => Subtype.ext (loc_inj h)

/-- The k-th token of step s of direction d: its role, round and duty, and the device whose cell it is of. -/
def tokR (d : Fin 2) (s : Fin 16) : Fin 6 → Role × ℕ × Fin 2
  | 0 => (.send d 0 (sl s.val), s.val / 2, 0)
  | 1 => (.recv d 0 (sl (s.val + 1)), s.val / 2, 0)
  | 2 => (.send d 1 (sl s.val), s.val / 2, 0)
  | 3 => (.recv d 1 (sl (s.val + 1)), s.val / 2, 0)
  | 4 => (.cred d, s.val, 0)
  | 5 => (.bar, s.val, d)
def tokD (d : Fin 2) (c : Dev nD) : Fin 6 → Dev nD
  | 0 => c
  | 1 => nx d c
  | 2 => c
  | 3 => nx d c
  | 4 => pv d c
  | 5 => pv d c
/-- The direction, the step and the number of a token, read off its role, round and duty. -/
def tokN : Role × ℕ × Fin 2 → Fin 2 × ℕ × ℕ
  | (.send d b j, r, _) => (d, 2 * r + j.val, 2 * b.val)
  | (.recv d b j, r, _) => (d, 2 * r + 1 - j.val, 2 * b.val + 1)
  | (.cred d, r, _) => (d, r, 4)
  | (.bar, r, u) => (u, r, 5)
theorem tokN_tokR : ∀ d : Fin 2, ∀ s : Fin 16, ∀ k : Fin 6, tokN (tokR d s k) = (d, s.val, k.val) := by decide +kernel
theorem tokR_inj (d d' : Fin 2) (s s' : Fin 16) (k k' : Fin 6) (h : tokR d s k = tokR d' s' k') : d = d' ∧ s = s' ∧ k = k' := by
  have e := (tokN_tokR d s k).symm.trans ((congrArg tokN h).trans (tokN_tokR d' s' k'))
  simp only [Prod.mk.injEq] at e
  exact ⟨e.1, Fin.ext e.2.1, Fin.ext e.2.2⟩

def tok (c : Dev nD) : Fin 2 × Fin 16 × Fin 6 ↪ GSem nD τ sig × ℕ × Fin 2 :=
  ⟨fun x => (cell (tokD x.1 c x.2.2) (tokR x.1 x.2.1 x.2.2).1, (tokR x.1 x.2.1 x.2.2).2), fun x y h => by
    obtain ⟨h1, h2, h3⟩ := tokR_inj x.1 y.1 x.2.1 y.2.1 x.2.2 y.2.2
      (Prod.ext (cell_inj (congrArg Prod.fst h)).2 (congrArg (fun t : GSem nD τ sig × ℕ × Fin 2 => t.2) h))
    exact Prod.ext h1 (Prod.ext h2 h3)⟩

/-- Which device pays a duty. -/
def payer (x : GSem nD τ sig × ℕ × Fin 2) : Dev nD :=
  match role x.1.2 with
  | some (.recv d _ _) => pv d x.1.1.1
  | some (.cred d) => nx d x.1.1.1
  | some .bar => nx x.2.2 x.1.1.1
  | _ => x.1.1.1
theorem payer_tok (c : Dev nD) (d : Fin 2) (s : Fin 16) (k : Fin 6) : payer (tok c (d, s, k)) = c := by
  fin_cases k
  · show payer (cell c (.send d 0 (sl s.val)), _, _) = c
    unfold payer cell; simp only [role_loc]
  · show payer (cell (nx d c) (.recv d 0 (sl (s.val + 1))), _, _) = c
    unfold payer cell; simp only [role_loc]; exact pv_nx d c
  · show payer (cell c (.send d 1 (sl s.val)), _, _) = c
    unfold payer cell; simp only [role_loc]
  · show payer (cell (nx d c) (.recv d 1 (sl (s.val + 1))), _, _) = c
    unfold payer cell; simp only [role_loc]; exact pv_nx d c
  · show payer (cell (pv d c) (.cred d), _, _) = c
    unfold payer cell; simp only [role_loc]; exact nx_pv d c
  · show payer (cell (pv d c) .bar, _, d) = c
    unfold payer cell; simp only [role_loc]; exact nx_pv d c

/-- The talk's cells and tokens, for the launch. -/
def fam : TalkSites.Fam nD τ sig (Fin 2) 1 where
  bar := loc .bar
  dorm _ := Finset.univ.map ⟨osem, osem_inj⟩
  toks c _ := Finset.univ.map (tok c)
  semKey _ := 0
  hsem _ _ _ := Subsingleton.elim _ _
  hbar _ h := by
    obtain ⟨k, -, e⟩ := Finset.mem_map.mp h
    exact k.2 (loc_inj e)
  tokKey x := (payer x, 0)
  htok c j x h := by
    obtain ⟨⟨d, s, k⟩, -, rfl⟩ := Finset.mem_map.mp h
    exact Prod.ext (payer_tok c d s k) (Subsingleton.elim _ _)

theorem fam_inv (κ : GSem nD τ sig → ℕ) : fam.cellInvs ER (Rd X) κ ⊢ Inv X κ := by
  have h (p : Dev nD × Role) (_ : p ∈ Finset.univ) : iprop(fam.cellInvs ER (Rd X) κ ∗ emp) ⊢ cellInv ER (Rd X) (κ (cell p.1 p.2)) (cell p.1 p.2) := by
    iintro ⟨#H, -⟩
    by_cases hp : p.2 = .bar
    · rw [hp]; iapply (fam.cellInvs_bar ER (Rd X) κ p.1); iexact H
    · iapply (fam.cellInvs_dorm ER (Rd X) κ p.1 (j := 0) (sm := loc p.2) (Finset.mem_map.mpr ⟨⟨p.2, hp⟩, Finset.mem_univ _, rfl⟩)); iexact H
  unfold Inv
  iintro #H
  iapply (bigSep_with_persistent (R := fam.cellInvs ER (Rd X) κ) h)
  isplitr; · iexact H
  iapply (Entails.of_eq (bigSep_emp_const (M := 𝕄 F) (Finset.univ : Finset (Dev nD × Role))).symm)
  iempintro

/-! ## The tokens of the steps -/

variable (c : Dev nD)

def stepToks (d : Fin 2) (s : ℕ) : sProp (𝕄 F) :=
  iprop(dutyTok ER (cell c (.send d 0 (sl s))) (s / 2) 0 ∗ dutyTok ER (cell (nx d c) (.recv d 0 (sl (s + 1)))) (s / 2) 0
    ∗ dutyTok ER (cell c (.send d 1 (sl s))) (s / 2) 0 ∗ dutyTok ER (cell (nx d c) (.recv d 1 (sl (s + 1)))) (s / 2) 0
    ∗ dutyTok ER (cell (pv d c) (.cred d)) s 0)
def stepCreds (d : Fin 2) (s : ℕ) : sProp (𝕄 F) :=
  iprop(cred (tallyAt (cell c (.recv d 0 (sl (s + 1)))) (2 * s + 2) N) ∗ cred (tallyAt (cell c (.recv d 1 (sl (s + 1)))) (2 * s + 2) N))

theorem bigSep_six {M : Type} [URA M] (Φ : Fin 6 → sProp M) : bigSep Finset.univ Φ = iprop(Φ 0 ∗ Φ 1 ∗ Φ 2 ∗ Φ 3 ∗ Φ 4 ∗ Φ 5) := by
  rw [bigSep_eq_bigSepL_of_eq [0, 1, 2, 3, 4, 5] (by decide) (by decide)]
  rfl

theorem toks_step (d : Fin 2) (s : Fin 16) :
    (bigSep Finset.univ fun k : Fin 6 => (dutyTok ER (tok c (d, s, k)).1 (tok c (d, s, k)).2.1 (tok c (d, s, k)).2.2 : sProp (𝕄 F)))
      ⊢ iprop(stepToks c d s.val ∗ dutyTok ER (cell (pv d c) .bar) s.val d) := by
  rw [bigSep_six]
  unfold stepToks
  iintro ⟨H0, H1, H2, H3, H4, H5⟩
  isplitr [H5]
  swap; · iexact H5
  isplitl [H0]; · iexact H0
  isplitl [H1]; · iexact H1
  isplitl [H2]; · iexact H2
  isplitl [H3]; · iexact H3
  iexact H4

theorem range_steps {M : Type} [URA M] (d : Fin 2) (A : ℕ → sProp M) : (bigSep Finset.univ fun s : Fin 16 => A s.val) ⊢ bigSep (Finset.Ico 0 (S d)) A := by
  refine (Entails.of_eq (bigSep_map (s := Finset.univ) (Fin.valEmbedding (n := 16)) (Φ := A)).symm).trans (bigSep_subset fun s hs => ?_)
  have h := (Finset.mem_Ico.mp hs).2
  have h' := S_le d
  exact Finset.mem_map.mpr ⟨⟨s, by omega⟩, Finset.mem_univ _, rfl⟩

theorem toks_dir (d : Fin 2) :
    (bigSep Finset.univ fun s : Fin 16 => bigSep Finset.univ fun k : Fin 6 => (dutyTok ER (tok c (d, s, k)).1 (tok c (d, s, k)).2.1 (tok c (d, s, k)).2.2 : sProp (𝕄 F)))
      ⊢ iprop(bigSep (Finset.Ico 0 (S d)) (stepToks c d) ∗ dutyTok ER (cell (pv d c) .bar) 0 d) := by
  refine (bigSep_mono fun s _ => toks_step c d s).trans ?_
  rw [bigSep_sep']
  exact BI.sep_mono (range_steps d (stepToks c d)) (bigSep_elim (Φ := fun s : Fin 16 => (dutyTok ER (cell (pv d c) .bar) s.val d : sProp (𝕄 F))) (Finset.mem_univ 0))

theorem toks_dealt :
    (bigSep (fam.toks c 0) fun x => (dutyTok ER x.1 x.2.1 x.2.2 : sProp (𝕄 F)))
      ⊢ iprop((bigSep (Finset.Ico 0 (S 0)) (stepToks c 0) ∗ dutyTok ER (cell (pv 0 c) .bar) 0 0)
          ∗ (bigSep (Finset.Ico 0 (S 1)) (stepToks c 1) ∗ dutyTok ER (cell (pv 1 c) .bar) 0 1)) := by
  show (bigSep (Finset.univ.map (tok c)) fun x => (dutyTok ER x.1 x.2.1 x.2.2 : sProp (𝕄 F))) ⊢ _
  rw [bigSep_map, bigSep_univ_prod, bigSep_fin_two, bigSep_univ_prod, bigSep_univ_prod]
  exact BI.sep_mono (toks_dir c 0) (toks_dir c 1)

/-! ## The credits -/

theorem lc_copy (d : Fin 2) (s : ℕ) (b : Fin 2) :
    (Pipeline.launchCred (fun e => copyOwe e d s b) c : sProp (𝕄 F)) ⊢ cred (tallyAt (cell c (.recv d b (sl (s + 1)))) (2 * s + 2) N) :=
  Pipeline.launchCred_tallyAt (loc (.recv d b (sl (s + 1)))) (nx d) (pv d) (nx_pv d) (pv_nx d) (2 * s + 2) N c
theorem lc_cred (d : Fin 2) (s : ℕ) :
    (Pipeline.launchCred (fun e => credOwe e d s) c : sProp (𝕄 F)) ⊢ if s + 1 < S d then waitKit c d (s + 1) else iprop(emp) := by
  unfold credOwe waitKit
  by_cases h : s + 1 < S d
  · simp only [if_pos h]
    rw [if_pos (by omega)]
    exact Pipeline.launchCred_tallyAt (loc (.cred d)) (pv d) (nx d) (pv_nx d) (nx_pv d) (2 * s + 3) 1 c
  · simp only [if_neg h]
    exact Entails.of_eq (Pipeline.launchCred_zero c)
theorem lc_bar (d : Fin 2) : (Pipeline.launchCred (fun e => tallyAt (cell (pv d e) .bar) 1 1) c : sProp (𝕄 F)) ⊢ cred (tallyAt (cell c .bar) 1 1) :=
  Pipeline.launchCred_tallyAt (loc .bar) (pv d) (nx d) (pv_nx d) (nx_pv d) 1 1 c

theorem shift {M : Type} [URA M] (W : ℕ → sProp M) (n : ℕ) : ∀ m k : ℕ, n - k = m →
    (bigSep (Finset.Ico k n) fun s => if s + 1 < n then W (s + 1) else iprop(emp)) ⊢ bigSep (Finset.Ico (k + 1) n) W := by
  intro m
  induction m with
  | zero =>
    intro k h
    rw [Finset.Ico_eq_empty (by omega), Finset.Ico_eq_empty (by omega), bigSep_empty, bigSep_empty]
  | succ m ih =>
    intro k h
    rw [Ico_step (s := k) (by omega), bigSep_insert (Ico_fresh _ _)]
    by_cases hk : k + 1 < n
    · rw [if_pos hk]
      refine BI.Entails.trans ?_ (Entails.of_eq ((bigSep_insert (Ico_fresh _ _)).symm.trans (congrArg (fun s => bigSep s W) (Ico_step hk).symm)))
      exact BI.sep_mono (BI.Entails.refl _) (ih (k + 1) (by omega))
    · rw [if_neg hk, Finset.Ico_eq_empty (a := k + 1) (by omega), bigSep_empty, bigSep_empty]
      exact Entails.of_eq (BI.equiv_iff.mp sep_emp)

theorem lc_dir (d : Fin 2) : (Pipeline.launchCred (fun e => owedD e d 0) c : sProp (𝕄 F))
    ⊢ iprop(bigSep (Finset.Ico 0 (S d)) (stepCreds c d) ∗ bigSep (Finset.Ico 0 (S d)) (waitKit c d)) := by
  have hstep (s : ℕ) : (Pipeline.launchCred (fun e => stepOwe e d s) c : sProp (𝕄 F))
      ⊢ iprop(stepCreds c d s ∗ if s + 1 < S d then waitKit c d (s + 1) else iprop(emp)) := by
    unfold stepOwe stepCreds
    rw [Pipeline.launchCred_add (fun e => credOwe e d s + copyOwe e d s 1) (fun e => copyOwe e d s 0),
      Pipeline.launchCred_add (fun e => credOwe e d s) (fun e => copyOwe e d s 1)]
    iintro ⟨⟨Hw, H1⟩, H0⟩
    isplitl [H0 H1]
    · isplitl [H0]
      · iapply (lc_copy c d s 0); iexact H0
      iapply (lc_copy c d s 1); iexact H1
    iapply (lc_cred c d s); iexact Hw
  have h0 : (bigSep (Finset.Ico (0 + 1) (S d)) (waitKit c d) : sProp (𝕄 F)) ⊢ bigSep (Finset.Ico 0 (S d)) (waitKit c d) := by
    rw [Ico_step (s := 0) (by have := two_le_S d; omega)]
    have hw : (waitKit c d 0 : sProp (𝕄 F)) = iprop(emp) := by unfold waitKit; rw [if_neg (by decide)]
    refine BIBase.Entails.trans (Q := iprop(waitKit c d 0 ∗ bigSep (Finset.Ico (0 + 1) (S d)) (waitKit c d))) ?_
      (Entails.of_eq (bigSep_insert (Ico_fresh _ _)).symm)
    rw [hw]
    iintro H
    isplitr; · iempintro
    iexact H
  unfold owedD
  rw [Pipeline.launchCred_sum]
  refine (bigSep_mono fun s _ => hstep s).trans ?_
  rw [bigSep_sep']
  exact BI.sep_mono (BI.Entails.refl _) ((shift (waitKit c d) (S d) (S d) 0 (by omega)).trans h0)

theorem kits_dealt (d : Fin 2) :
    iprop(bigSep (Finset.Ico 0 (S d)) (stepToks c d) ∗ bigSep (Finset.Ico 0 (S d)) (stepCreds c d) ∗ bigSep (Finset.Ico 0 (S d)) (waitKit c d))
      ⊢ (kits c d 0 : sProp (𝕄 F)) := by
  unfold kits
  rw [← bigSep_sep', ← bigSep_sep']
  refine bigSep_mono fun s _ => ?_
  show iprop(stepToks c d s ∗ stepCreds c d s ∗ waitKit c d s) ⊢ kit c d s
  unfold stepToks stepCreds kit copyKit sigKit
  iintro ⟨⟨H0, H1, H2, H3, H4⟩, ⟨H5, H6⟩, H7⟩
  isplitl [H0 H1 H5]
  · isplitl [H0]; · iexact H0
    isplitl [H1]; · iexact H1
    iexact H5
  isplitl [H2 H3 H6]
  · isplitl [H2]; · iexact H2
    isplitl [H3]; · iexact H3
    iexact H6
  isplitr [H7]
  swap; · iexact H7
  by_cases h : s + 1 < S d
  · rw [if_pos h]; iexact H4
  · rw [if_neg h]; iempintro

theorem creds_dealt : (Pipeline.launchCred O₀ c : sProp (𝕄 F))
    ⊢ iprop(cred (tallyAt (cell c .bar) 1 2)
        ∗ (bigSep (Finset.Ico 0 (S 0)) (stepCreds c 0) ∗ bigSep (Finset.Ico 0 (S 0)) (waitKit c 0))
        ∗ (bigSep (Finset.Ico 0 (S 1)) (stepCreds c 1) ∗ bigSep (Finset.Ico 0 (S 1)) (waitKit c 1))) := by
  have e : (O₀ : Dev nD → CellTallies nD τ sig ℕ)
      = fun e => owedD e 0 0 + owedD e 1 0 + tallyAt (cell (pv 1 e) .bar) 1 1 + tallyAt (cell (pv 0 e) .bar) 1 1 := rfl
  have h2 : (tallyAt (cell c .bar) 1 2 : CellTallies nD τ sig ℕ) = tallyAt (cell c .bar) 1 1 + tallyAt (cell c .bar) 1 1 := by
    rw [tallyAt_add]
  rw [e, Pipeline.launchCred_add (fun e => owedD e 0 0 + owedD e 1 0 + tallyAt (cell (pv 1 e) .bar) 1 1) (fun e => tallyAt (cell (pv 0 e) .bar) 1 1),
    Pipeline.launchCred_add (fun e => owedD e 0 0 + owedD e 1 0) (fun e => tallyAt (cell (pv 1 e) .bar) 1 1),
    Pipeline.launchCred_add (fun e => owedD e 0 0) (fun e => owedD e 1 0), h2]
  iintro ⟨⟨⟨Ha, Hb⟩, H1⟩, H0⟩
  isplitl [H0 H1]
  · iapply (cred_add (tallyAt (cell c .bar) 1 1) (tallyAt (cell c .bar) 1 1)).2
    isplitl [H0]
    · iapply (lc_bar c 0); iexact H0
    iapply (lc_bar c 1); iexact H1
  isplitl [Ha]
  · iapply (lc_dir c 0); iexact Ha
  iapply (lc_dir c 1); iexact Hb

end Ring
-- ==== Proof.Scratch.lean ====
/-
  A buffer of two slots taken apart into its slots, and put together from them.
-/
module

public import proofs.«01_k».proof.Proof.Start
public import Idealize.ShloMosaic.Lib.Pipeline.ValueKit.Geometry

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Gen

variable {F : FTy → Type} [FloatOps F]

theorem rect_mem (j : Fin 2) (i : S2x2x8x256x64.Idx) :
    i ∈ (Rect.unit (s := S2x2x8x256x64) ![j.val, 0, 0, 0, 0] S1x2x8x256x64.size (slot_inb j)).set ↔ (i 0).val = j.val := by
  rw [Rect.mem_set_unit]
  constructor
  · intro h
    have h0 := h 0
    have h1 : j.val ≤ (i 0).val ∧ (i 0).val < j.val + 1 := h0
    omega
  · intro h a
    fin_cases a
    · show j.val ≤ (i 0).val ∧ (i 0).val < j.val + 1
      omega
    · show 0 ≤ (i 1).val ∧ (i 1).val < 0 + 2
      exact ⟨Nat.zero_le _, by have := (i 1).isLt; exact (Nat.zero_add 2).symm ▸ this⟩
    · show 0 ≤ (i 2).val ∧ (i 2).val < 0 + 8
      exact ⟨Nat.zero_le _, by have := (i 2).isLt; exact (Nat.zero_add 8).symm ▸ this⟩
    · show 0 ≤ (i 3).val ∧ (i 3).val < 0 + 256
      exact ⟨Nat.zero_le _, by have := (i 3).isLt; exact (Nat.zero_add 256).symm ▸ this⟩
    · show 0 ≤ (i 4).val ∧ (i 4).val < 0 + 64
      exact ⟨Nat.zero_le _, by have := (i 4).isLt; exact (Nat.zero_add 64).symm ▸ this⟩

theorem rects (s0 s1 : Finset S2x2x8x256x64.Idx)
    (h0 : s0 = (Rect.unit (s := S2x2x8x256x64) ![(0 : Fin 2).val, 0, 0, 0, 0] S1x2x8x256x64.size (slot_inb 0)).set)
    (h1 : s1 = (Rect.unit (s := S2x2x8x256x64) ![(1 : Fin 2).val, 0, 0, 0, 0] S1x2x8x256x64.size (slot_inb 1)).set) :
    Disjoint s0 s1 ∧ s0 ∪ s1 = Finset.univ := by
  subst h0 h1
  refine ⟨Finset.disjoint_left.mpr fun i hi hi' => ?_, Finset.eq_univ_iff_forall.mpr fun i => ?_⟩
  · exact absurd (((rect_mem 0 i).mp hi).symm.trans ((rect_mem 1 i).mp hi')) (by decide)
  · have h : (i 0).val < 2 := (i 0).isLt
    rcases (by omega : (i 0).val = 0 ∨ (i 0).val = 1) with h | h
    · exact Finset.mem_union_left _ ((rect_mem 0 i).mpr h)
    · exact Finset.mem_union_right _ ((rect_mem 1 i).mpr h)

section Any
variable {ℓ : Loc nD τ sig} {s0 s1 : Finset (Idx ℓ)}

theorem take_of (h : Disjoint s0 s1 ∧ s0 ∪ s1 = Finset.univ) :
    iprop(∃ f : Buf (Elt F) ℓ, ℓ ↦{fullShare} f) ⊢ (iprop((∃ f : Buf (Elt F) ℓ, ℓ ↦[s0]{fullShare} f) ∗ ∃ f : Buf (Elt F) ℓ, ℓ ↦[s1]{fullShare} f) : sProp (𝕄 F)) := by
  iintro ⟨%f, H⟩
  ihave H' := ((Entails.of_eq (congrArg (fun s => (ℓ ↦[s]{fullShare} f : sProp (𝕄 F))) h.2.symm)).trans (pointsTo_union h.1).1) $$ H
  icases H' with ⟨H0, H1⟩
  isplitl [H0]
  · iexists f; iexact H0
  iexists f; iexact H1
theorem put_of (h : Disjoint s0 s1 ∧ s0 ∪ s1 = Finset.univ) :
    (iprop((∃ f : Buf (Elt F) ℓ, ℓ ↦[s0]{fullShare} f) ∗ ∃ f : Buf (Elt F) ℓ, ℓ ↦[s1]{fullShare} f) : sProp (𝕄 F)) ⊢ iprop(∃ f : Buf (Elt F) ℓ, ℓ ↦{fullShare} f) := by
  iintro ⟨⟨%f, H0⟩, ⟨%g, H1⟩⟩
  iexists (s1.piecewise g f)
  iapply (Entails.of_eq (congrArg (fun s => (ℓ ↦[s]{fullShare} (s1.piecewise g f) : sProp (𝕄 F))) h.2))
  iapply (pointsTo_join h.1)
  isplitl [H0]; · iexact H0
  iexact H1
end Any

theorem any_slot (d b j : Fin 2) (c : Dev nD) :
    iprop(∃ f : Buf (Elt F) ((slotM d b j).view.loc (c : Thread nD τ)), (slotM d b j).view.loc (c : Thread nD τ) ↦[(slotM d b j).view.set]{fullShare} f)
      ⊢ (slotAny d b j c : sProp (𝕄 F)) := by
  unfold slotAny slotPts
  iintro ⟨%f, H⟩
  iexists _, f
  isplitr; · ipureintro; rfl
  iexact H
theorem slot_any (d b j : Fin 2) (c : Dev nD) :
    (slotAny d b j c : sProp (𝕄 F))
      ⊢ iprop(∃ f : Buf (Elt F) ((slotM d b j).view.loc (c : Thread nD τ)), (slotM d b j).view.loc (c : Thread nD τ) ↦[(slotM d b j).view.set]{fullShare} f) := by
  unfold slotAny slotPts
  iintro ⟨%x, %f, -, H⟩
  iexists f
  iexact H

theorem take_slots (d b : Fin 2) (c : Dev nD) :
    iprop(∃ f : Buf (Elt F) ((slotM d b 0).view.loc (c : Thread nD τ)), (slotM d b 0).view.loc (c : Thread nD τ) ↦{fullShare} f)
      ⊢ (iprop(slotAny d b 0 c ∗ slotAny d b 1 c) : sProp (𝕄 F)) := by
  refine BIBase.Entails.trans ?_ (BI.sep_mono (any_slot d b 0 c) (any_slot d b 1 c))
  fin_cases d <;> fin_cases b <;>
    exact take_of (rects _ _ ((View.set_reshape _ _).trans (View.set_slice_whole _ _)) ((View.set_reshape _ _).trans (View.set_slice_whole _ _)))
theorem put_slots (d b : Fin 2) (c : Dev nD) :
    (iprop(slotAny d b 0 c ∗ slotAny d b 1 c) : sProp (𝕄 F))
      ⊢ iprop(∃ f : Buf (Elt F) ((slotM d b 0).view.loc (c : Thread nD τ)), (slotM d b 0).view.loc (c : Thread nD τ) ↦{fullShare} f) := by
  refine BIBase.Entails.trans (BI.sep_mono (slot_any d b 0 c) (slot_any d b 1 c)) ?_
  fin_cases d <;> fin_cases b <;>
    exact put_of (rects _ _ ((View.set_reshape _ _).trans (View.set_slice_whole _ _)) ((View.set_reshape _ _).trans (View.set_slice_whole _ _)))

theorem takeQ (c : Dev nD) :
    iprop(∃ f : Buf (Elt F) ((c : Thread nD τ).loc cc0_scratch0), (c : Thread nD τ).loc cc0_scratch0 ↦{fullShare} f) ⊢ (anyQ c : sProp (𝕄 F)) := by
  unfold anyQ own owns
  iintro ⟨%f, H⟩
  iexists _, f
  isplitr; · ipureintro; rfl
  rw [show (Memref.whole cc0_scratch0).view.set = Finset.univ from View.set_whole _]
  iexact H
theorem putQ (c : Dev nD) :
    (anyQ c : sProp (𝕄 F)) ⊢ iprop(∃ f : Buf (Elt F) ((c : Thread nD τ).loc cc0_scratch0), (c : Thread nD τ).loc cc0_scratch0 ↦{fullShare} f) := by
  unfold anyQ own owns
  iintro ⟨%x, %f, -, H⟩
  iexists f
  rw [show (Memref.whole cc0_scratch0).view.set = Finset.univ from View.set_whole _]
  iexact H
theorem takeA (c : Dev nD) :
    iprop(∃ f : Buf (Elt F) ((c : Thread nD τ).loc cc0_scratch5), (c : Thread nD τ).loc cc0_scratch5 ↦{fullShare} f) ⊢ (anyA c : sProp (𝕄 F)) := by
  unfold anyA own owns
  iintro ⟨%f, H⟩
  iexists _, f
  isplitr; · ipureintro; rfl
  rw [show (Memref.whole cc0_scratch5).view.set = Finset.univ from View.set_whole _]
  iexact H
theorem putA (c : Dev nD) :
    (anyA c : sProp (𝕄 F)) ⊢ iprop(∃ f : Buf (Elt F) ((c : Thread nD τ).loc cc0_scratch5), (c : Thread nD τ).loc cc0_scratch5 ↦{fullShare} f) := by
  unfold anyA own owns
  iintro ⟨%x, %f, -, H⟩
  iexists f
  rw [show (Memref.whole cc0_scratch5).view.set = Finset.univ from View.set_whole _]
  iexact H

/-- The scratch buffers. -/
abbrev scratch (c : Dev nD) : sProp (𝕄 F) := iprop((slots c 0 ∗ slots c 1) ∗ anyQ c ∗ anyA c)

theorem scratch_in (c : Dev nD) : (Pipeline.scopedRest (Ix := ℕ) (Name := ℕ) (U := UU) (Lvl := ℕ) (Val := Elt F) spec0 c : sProp (𝕄 F)) ⊢ scratch c := by
  rw [scopedRest0_eq]
  unfold scratch slots
  iintro ⟨H0, H1, H2, H3, H4, H5⟩
  ihave Ha := (take_slots (F := F) 0 0 c) $$ H1
  ihave Hb := (take_slots (F := F) 0 1 c) $$ H2
  ihave Hc := (take_slots (F := F) 1 0 c) $$ H3
  ihave Hd := (take_slots (F := F) 1 1 c) $$ H4
  icases Ha with ⟨Ha, Ha'⟩
  icases Hb with ⟨Hb, Hb'⟩
  icases Hc with ⟨Hc, Hc'⟩
  icases Hd with ⟨Hd, Hd'⟩
  isplitl [Ha Ha' Hb Hb' Hc Hc' Hd Hd']
  · isplitl [Ha Ha' Hb Hb']
    · isplitl [Ha]; · iexact Ha
      isplitl [Ha']; · iexact Ha'
      isplitl [Hb]; · iexact Hb
      iexact Hb'
    isplitl [Hc]; · iexact Hc
    isplitl [Hc']; · iexact Hc'
    isplitl [Hd]; · iexact Hd
    iexact Hd'
  isplitl [H0]
  · iapply (takeQ (F := F) c); iexact H0
  iapply (takeA (F := F) c); iexact H5

theorem scratch_out (c : Dev nD) : scratch c ⊢ (Pipeline.scopedRest (Ix := ℕ) (Name := ℕ) (U := UU) (Lvl := ℕ) (Val := Elt F) spec0 c : sProp (𝕄 F)) := by
  rw [scopedRest0_eq]
  unfold scratch slots
  iintro ⟨⟨⟨Ha, Ha', Hb, Hb'⟩, Hc, Hc', Hd, Hd'⟩, H0, H5⟩
  isplitl [H0]
  · iapply (putQ (F := F) c); iexact H0
  isplitl [Ha Ha']
  · iapply (put_slots (F := F) 0 0 c)
    isplitl [Ha]; · iexact Ha
    iexact Ha'
  isplitl [Hb Hb']
  · iapply (put_slots (F := F) 0 1 c)
    isplitl [Hb]; · iexact Hb
    iexact Hb'
  isplitl [Hc Hc']
  · iapply (put_slots (F := F) 1 0 c)
    isplitl [Hc]; · iexact Hc
    iexact Hc'
  isplitl [Hd Hd']
  · iapply (put_slots (F := F) 1 1 c)
    isplitl [Hd]; · iexact Hd
    iexact Hd'
  iapply (putA (F := F) c); iexact H5

end Ring
-- ==== Proof.Launch.lean ====
/-
  The launch: the region that runs the body, between the host's transpositions, and the run of the whole program.
-/
module

public import proofs.«01_k».proof.Proof.Body
public import proofs.«01_k».proof.Proof.Dealt
public import proofs.«01_k».proof.Proof.Scratch
public import proofs.«01_k».proof.Proof.Gen.KernelIdeal.Points

@[expose] public section

noncomputable section

namespace Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Facts₀ Cert.KernelIdeal.Facts Cert.KernelIdeal.Gen

variable {F : FTy → Type} [FloatOps F] (m : (ℓ : Loc nD τ sig) → Buf (Elt F) ℓ) (ρ : Dev nD → PrngReg) (c : Dev nD)

/-! ## The region's own cells, regrouped by direction -/

/-- The region's own roles, one after the other. -/
def ownL : List Own := [⟨.send 0 0 0, by decide⟩, ⟨.recv 0 0 1, by decide⟩, ⟨.send 0 0 1, by decide⟩, ⟨.recv 0 0 0, by decide⟩, ⟨.send 0 1 0, by decide⟩, ⟨.recv 0 1 1, by decide⟩, ⟨.send 0 1 1, by decide⟩, ⟨.recv 0 1 0, by decide⟩, ⟨.cred 0, by decide⟩, ⟨.send 1 0 0, by decide⟩, ⟨.recv 1 0 1, by decide⟩, ⟨.send 1 0 1, by decide⟩, ⟨.recv 1 0 0, by decide⟩, ⟨.send 1 1 0, by decide⟩, ⟨.recv 1 1 1, by decide⟩, ⟨.send 1 1 1, by decide⟩, ⟨.recv 1 1 0, by decide⟩, ⟨.cred 1, by decide⟩]
theorem own_list (Φ : Role → sProp (𝕄 F)) : bigSep Finset.univ (fun k : Own => Φ k.1) = bigSepL ownL (fun k : Own => Φ k.1) :=
  bigSep_univ_eq_bigSepL ownL (by decide) (by decide) (fun k : Own => Φ k.1)
theorem own_in (Φ : Role → sProp (𝕄 F)) : bigSep Finset.univ (fun k : Own => Φ k.1) ⊢ iprop(cells Φ 0 ∗ cells Φ 1) := by
  rw [own_list]
  unfold cells
  show iprop(Φ (.send 0 0 0) ∗ Φ (.recv 0 0 1) ∗ Φ (.send 0 0 1) ∗ Φ (.recv 0 0 0) ∗ Φ (.send 0 1 0) ∗ Φ (.recv 0 1 1) ∗ Φ (.send 0 1 1) ∗ Φ (.recv 0 1 0) ∗ Φ (.cred 0) ∗ Φ (.send 1 0 0) ∗ Φ (.recv 1 0 1) ∗ Φ (.send 1 0 1) ∗ Φ (.recv 1 0 0) ∗ Φ (.send 1 1 0) ∗ Φ (.recv 1 1 1) ∗ Φ (.send 1 1 1) ∗ Φ (.recv 1 1 0) ∗ Φ (.cred 1)) ⊢ _
  iintro ⟨H0, H1, H2, H3, H4, H5, H6, H7, H8, H9, H10, H11, H12, H13, H14, H15, H16, H17⟩
  isplitl [H0 H1 H2 H3 H4 H5 H6 H7 H8]
  · isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    iexact H8
  isplitl [H9 H10 H11 H12]
  · isplitl [H9]; · iexact H9
    isplitl [H10]; · iexact H10
    isplitl [H11]; · iexact H11
    iexact H12
  isplitl [H13 H14 H15 H16]
  · isplitl [H13]; · iexact H13
    isplitl [H14]; · iexact H14
    isplitl [H15]; · iexact H15
    iexact H16
  iexact H17
theorem own_out (Φ : Role → sProp (𝕄 F)) : iprop(cells Φ 0 ∗ cells Φ 1) ⊢ bigSep Finset.univ (fun k : Own => Φ k.1) := by
  rw [own_list]
  unfold cells
  show _ ⊢ iprop(Φ (.send 0 0 0) ∗ Φ (.recv 0 0 1) ∗ Φ (.send 0 0 1) ∗ Φ (.recv 0 0 0) ∗ Φ (.send 0 1 0) ∗ Φ (.recv 0 1 1) ∗ Φ (.send 0 1 1) ∗ Φ (.recv 0 1 0) ∗ Φ (.cred 0) ∗ Φ (.send 1 0 0) ∗ Φ (.recv 1 0 1) ∗ Φ (.send 1 0 1) ∗ Φ (.recv 1 0 0) ∗ Φ (.send 1 1 0) ∗ Φ (.recv 1 1 1) ∗ Φ (.send 1 1 1) ∗ Φ (.recv 1 1 0) ∗ Φ (.cred 1))
  iintro ⟨⟨⟨H0, H1, H2, H3⟩, ⟨H4, H5, H6, H7⟩, H8⟩, ⟨⟨H9, H10, H11, H12⟩, ⟨H13, H14, H15, H16⟩, H17⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-! ## The region's data -/

/-- A device's buffers when the region is entered. -/
abbrev V0 : Valuation τ sig (Elt F) := StableHlo.after hostOps0 (fun b => m (c, b))
abbrev Vr (b : Ref sig .tc) : Buf (Elt F) ((c : Thread nD τ).loc b) := V0 m c (Proc.devRef .tc b)
/-- A window's block. -/
def iblk (w : Fin cfg0.W) (t : Fin cfg0.N) : ((cfg0.win w).xblock (cfg0.grid.coords t)).Idx → Elt F (cfg0.win w).elt :=
  ((cfg0.win w).blk t).view.read (Elt F) (Vr m c (Pipeline.arrRef spec0 w))
/-- The keys' and values' blocks, and the queries'. -/
def xv (b : Fin 2) (c : Dev nD) : Blk F := match b with
  | 0 => iblk m c 1 t0_0
  | 1 => iblk m c 2 t0_0
def qv : S2x8x256x64.Idx → Elt F .f32 := iblk m c 0 t0_0

/-- What is kept for the region from the launch on; what the body is entered with; what it leaves. -/
def Tk : sProp (𝕄 F) := iprop(fam.launched ER (Rd (xv m)) (fun _ => Finset.univ) c ∗ Pipeline.launchCred O₀ c)
def Xk : sProp (𝕄 F) :=
  iprop(∃ K, Inv (xv m) K ∗ levAts L lv ∗ (first c 0 ∗ first c 1) ∗ at' c .bar 0 ∗ cred (tallyAt (cell c .bar) 1 2) ∗ (bars c 0 ∗ bars c 1))
def Yk : sProp (𝕄 F) := semVal (cell c .bar) 0

def dat (c : Dev nD) : Dat τ (Elt F) ℕ ℕ UU ℕ cfg0 c where
  A w := Vr m c (Pipeline.arrRef spec0 w)
  after w t := match w with
    | 0 => iblk m c 0 t
    | 1 => iblk m c 1 t
    | 2 => iblk m c 2 t
    | 3 => res (xv m) c (qv m c)
    | ⟨_ + 4, h⟩ => absurd h (Nat.not_lt.2 (Nat.le_add_left _ _))
  Φ t := if t.val = 0 then iprop(Xk m c ∗ scratch c ∗ ∃ r, prngReg c r)
    else iprop(Yk c ∗ (zeros c 0 ∗ zeros c 1) ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem owed_first : (dat m c).owed t0_0.castSucc = O₀ c := by
  show (if (t0_0.castSucc : Fin (cfg0.N + 1)).val = 0 then O₀ c else 0) = O₀ c; exact if_pos rfl
theorem owed_zero : (pdats m 0 c).owed 0 = O₀ c := by
  show (if ((0 : Fin (cfg0.N + 1)).val = 0) then O₀ c else 0) = O₀ c; exact if_pos rfl
theorem owed_last : (pdats m 0 c).owed (Fin.last _) = 0 := by
  show (if (Fin.last cfg0.N).val = 0 then O₀ c else 0) = 0
  rw [Fin.val_last, if_neg (by rw [show cfg0.N = 1 from N_0]; decide)]

theorem owes_intro (t : Fin (cfg0.N + 1)) (O : CellTallies nD τ sig ℕ) (h0 : (dat m c).owed t = O) :
    (owe c O : sProp (𝕄 F)) ⊢ ((dat m c).owesAt 0 t : sProp (𝕄 F)) := by
  unfold owe Dat.owesAt Pipeline.owesWithin Dat.bound; rw [h0, show (dat m c).recorded t = Set.univ from rfl]
  iintro ⟨%W, HO⟩; iexists W; isplitr; · ipureintro; exact fun _ _ => Or.inl trivial
  iexact HO
theorem owes_elim (t : Fin (cfg0.N + 1)) (O : CellTallies nD τ sig ℕ) (h0 : (dat m c).owed t = O) :
    ((dat m c).owesAt 0 t : sProp (𝕄 F)) ⊢ owe c O := by
  unfold owe Dat.owesAt Pipeline.owesWithin; rw [h0]
  iintro ⟨%W, -, HO⟩; iexists W; iexact HO

theorem before0 (t : Fin cfg0.N) (d) : (dat m c).before 0 t d = iblk m c 0 t :=
  ((dat m c).before_in_eq_fetched 0 rfl (fun _ => rfl) (fun _ _ _ => rfl) (fun t => rfl) t d).trans rfl
theorem before1 (t : Fin cfg0.N) (d) : (dat m c).before 1 t d = iblk m c 1 t :=
  ((dat m c).before_in_eq_fetched 1 rfl (fun _ => rfl) (fun _ _ _ => rfl) (fun t => rfl) t d).trans rfl
theorem before2 (t : Fin cfg0.N) (d) : (dat m c).before 2 t d = iblk m c 2 t :=
  ((dat m c).before_in_eq_fetched 2 rfl (fun _ => rfl) (fun _ _ _ => rfl) (fun t => rfl) t d).trans rfl

theorem obligation : Pipeline.BodyObligation (dat m c) (defs₀ (F := F)) 𝒱₀ 0 Set.univ := fun t => by
  obtain rfl := fin_N0 t
  rw [bigSep_W0, bigSep_W0]
  rw [show (dat m c).Φ t0_0.castSucc = iprop(Xk m c ∗ scratch c ∗ ∃ r, prngReg c r) from rfl,
    show (dat m c).Φ t0_0.succ = iprop(Yk c ∗ (zeros c 0 ∗ zeros c 1) ∗ scratch c ∗ ∃ r, prngReg c r) from rfl]
  unfold Xk
  iintro ⟨⟨⟨%K, HI, Hlev, Hf, Hb, Hc, Hbs⟩, ⟨Hs, HQ, HA⟩, Hp⟩, HO, ⟨%d0, H0⟩, ⟨%d1, H1⟩, ⟨%d2, H2⟩, ⟨%d3, H3⟩⟩
  ihave HO' := (owes_elim m c _ (O₀ c) (owed_first m c)) $$ HO
  ihave H0' := (Entails.of_eq (congrArg (own c (win0_0.stage (cfg0.slots t0_0 0))) (before0 m c t0_0 d0))) $$ H0
  ihave H1' := (Entails.of_eq (congrArg (own c (win0_1.stage (cfg0.slots t0_0 1))) (before1 m c t0_0 d1))) $$ H1
  ihave H2' := (Entails.of_eq (congrArg (own c (win0_2.stage (cfg0.slots t0_0 2))) (before2 m c t0_0 d2))) $$ H2
  ihave Hrun : iprop(pre (xv m) K c (win0_0.stage (cfg0.slots t0_0 0)) (win0_1.stage (cfg0.slots t0_0 1)) (win0_2.stage (cfg0.slots t0_0 2)) (win0_3.stage (cfg0.slots t0_0 3)) (qv m c) ∗ ∃ r, prngReg c r)
      $$ [HI Hlev Hf Hb Hc Hbs Hs HQ HA HO' H0' H1' H2' H3 Hp]
  · isplitr [Hp]
    swap; · iexact Hp
    unfold pre
    isplitl [HI]; · iexact HI
    isplitl [Hlev]; · iexact Hlev
    isplitl [HO']; · iexact HO'
    isplitl [Hf]; · iexact Hf
    isplitl [Hb]; · iexact Hb
    isplitl [Hc]; · iexact Hc
    isplitl [Hbs]; · iexact Hbs
    isplitl [Hs]; · iexact Hs
    isplitl [HQ]; · iexact HQ
    isplitl [HA]; · iexact HA
    isplitl [H0']; · iexact H0'
    isplitl [H1']; · iexact H1'
    isplitl [H2']; · iexact H2'
    iexists _; iexact H3
  istop
  refine ((sep_mono_l (run (X := xv m) (K := K) (c := c) (win0_0.stage (cfg0.slots t0_0 0)) (Facts₀.hstage0_0 0) (win0_1.stage (cfg0.slots t0_0 1)) (Facts₀.hstage0_1 0)
    (win0_2.stage (cfg0.slots t0_0 2)) (Facts₀.hstage0_2 0) (win0_3.stage (cfg0.slots t0_0 3)) (Facts₀.hstage0_3 0) (qv m c))).trans
    (wp_frame_r _ _ _)).trans (wp_mono _ _ _ fun _ => ?_)
  unfold post
  iintro ⟨⟨HO, Hy, Hz, Hs, HQ, HA, H0, H1, H2, H3⟩, Hp⟩
  isplitl [Hy Hz Hs HQ HA Hp]
  · isplitl [Hy]; · unfold Yk; iexact Hy
    isplitl [Hz]; · iexact Hz
    isplitl [Hs HQ HA]
    · isplitl [Hs]; · iexact Hs
      isplitl [HQ]; · iexact HQ
      iexact HA
    iexact Hp
  isplitl [HO]; · iapply (owes_intro m c t0_0.succ 0 rfl); iexact HO
  isplitl [H0]; · iexact H0
  isplitl [H1]; · iexact H1
  isplitl [H2]; · iexact H2
  iexact H3

/-! ## Opening the region's cells -/

theorem ownSems_eq : (Pipeline.ownSems0 osem c : sProp (𝕄 F)) = bigSep Finset.univ fun k : Own => semVal (cell c k.1) 0 := rfl

theorem first_in (d : Fin 2) : iprop(cells (fun ρ => at' c ρ 0) d ∗ kits c d 0) ⊢ (first c d : sProp (𝕄 F)) := by
  unfold cells first marks
  iintro ⟨⟨⟨A0, A1, A2, A3⟩, ⟨B0, B1, B2, B3⟩, C⟩, K⟩
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C]; · iexact C
  iexact K

/-- The region's own cells, open on their counters at zero. -/
theorem opened (κ : GSem nD τ sig → ℕ) :
    iprop(Inv (xv m) κ ∗ (bigSep Finset.univ fun k : Own => openTok ER (cell c k.1)) ∗ Pipeline.ownSems0 osem c)
      ⊢ (|={Set.univ}=> bigSep Finset.univ fun k : Own => at' c k.1 0 : sProp (𝕄 F)) := by
  rw [ownSems_eq]
  iintro ⟨#HI, Ho, Hs⟩
  iapply (cells_open ER (Rd (xv m)) Finset.univ (fun k : Own => cell c k.1) (fun k => κ (cell c k.1)) (fun _ _ => Set.mem_univ _))
  isplitr [Hs]
  swap; · iexact Hs
  iapply (bigSep_with_persistent (R := Inv (xv m) κ) (Φ := fun k : Own => openTok ER (cell c k.1)) fun k _ => by
    iintro ⟨#HI, Ho⟩
    isplitr
    · iapply (show Inv (xv m) κ ⊢ cellInv ER (Rd (xv m)) (κ (cell c k.1)) (cell c k.1) from bigSep_elim (Finset.mem_univ (c, k.1)))
      iexact HI
    iexact Ho)
  isplitr; · iexact HI
  iexact Ho

theorem hopen : iprop(Tk m c ∗ Pipeline.ownSems0 osem c ∗ levAts L lv) ⊢ (|={Set.univ}=> Xk m c : sProp (𝕄 F)) := by
  unfold Tk TalkSites.Fam.launched TalkSites.Fam.barPos
  iintro ⟨⟨⟨⟨-, Hat, #Hr⟩, Hj⟩, Hc⟩, Hs, #Hlev⟩
  ihave Hj0 := (show (bigSep Finset.univ fun j => fam.rides ER (Rd (xv m)) c j) ⊢ fam.rides ER (Rd (xv m)) c 0 from bigSep_elim (Finset.mem_univ _)) $$ Hj
  unfold TalkSites.Fam.rides
  icases Hj0 with ⟨⟨%κ, #HI⟩, Ho, Ht⟩
  ihave #HI' := (fam_inv (xv m) κ) $$ HI
  ihave Ho' := (Entails.of_eq (show bigSep (fam.dorm 0) (fun sm => openTok ER ((c.tc : Thread nD τ), sm)) = bigSep Finset.univ (fun k : Own => openTok ER (cell c k.1)) from
    bigSep_map (s := Finset.univ) ⟨osem, osem_inj⟩ (Φ := fun sm => (openTok ER ((c.tc : Thread nD τ), sm) : sProp (𝕄 F))))) $$ Ho
  imod (opened m c κ) $$ [Ho' Hs] with Hown
  · isplitr; · iexact HI'
    isplitl [Ho'] <;> iassumption
  imodintro
  ihave Hcs := (own_in fun ρ => at' c ρ 0) $$ Hown
  icases Hcs with ⟨H0, H1⟩
  ihave Ht' := (toks_dealt c) $$ Ht
  icases Ht' with ⟨⟨T0, B0⟩, T1, B1⟩
  ihave Hc' := (creds_dealt c) $$ Hc
  icases Hc' with ⟨Cb, ⟨C0, W0⟩, C1, W1⟩
  ihave #R0 := (show (bigSep Finset.univ fun n : Dev nD => reached ER ((n.tc : Thread nD τ), fam.bar) 0) ⊢ (reached ER (cell (pv 0 c) .bar) 0 : sProp (𝕄 F)) from
    bigSep_elim (Finset.mem_univ (pv 0 c))) $$ Hr
  ihave #R1 := (show (bigSep Finset.univ fun n : Dev nD => reached ER ((n.tc : Thread nD τ), fam.bar) 0) ⊢ (reached ER (cell (pv 1 c) .bar) 0 : sProp (𝕄 F)) from
    bigSep_elim (Finset.mem_univ (pv 1 c))) $$ Hr
  ihave #Rc := (show (bigSep Finset.univ fun n : Dev nD => reached ER ((n.tc : Thread nD τ), fam.bar) 0) ⊢ (reached ER (cell c .bar) 0 : sProp (𝕄 F)) from
    bigSep_elim (Finset.mem_univ c)) $$ Hr
  unfold Xk
  iexists κ
  isplitr; · iexact HI'
  isplitr; · iexact Hlev
  isplitl [H0 T0 C0 W0 H1 T1 C1 W1]
  · isplitl [H0 T0 C0 W0]
    · iapply (first_in c 0)
      isplitl [H0]; · iexact H0
      iapply (kits_dealt c 0)
      isplitl [T0]; · iexact T0
      isplitl [C0] <;> iassumption
    · iapply (first_in c 1)
      isplitl [H1]; · iexact H1
      iapply (kits_dealt c 1)
      isplitl [T1]; · iexact T1
      isplitl [C1] <;> iassumption
  isplitl [Hat]
  · unfold at'
    isplitl [Hat]; · iexact Hat
    iexact Rc
  isplitl [Cb]; · iexact Cb
  isplitl [B0]
  · unfold bars
    isplitl [B0]; · iexact B0
    iexact R0
  · unfold bars
    isplitl [B1]; · iexact B1
    iexact R1

theorem hin : iprop(Pipeline.scopedRest spec0 c ∗ (∃ r, prngReg c r) ∗ StableHlo.held (c.tc : Thread nD τ) ∅ (V0 m c) ∗ Xk m c) ⊢ ((dat m c).Φ 0 : sProp (𝕄 F)) := by
  rw [show (dat m c).Φ 0 = iprop(Xk m c ∗ scratch c ∗ ∃ r, prngReg c r) from rfl]
  iintro ⟨Hs, Hp, -, HX⟩
  isplitl [HX]; · iexact HX
  isplitl [Hs]; · iapply (scratch_in c); iexact Hs
  iexact Hp

theorem phi_last : (dat m c).Φ (Fin.last cfg0.N) = iprop(Yk c ∗ (zeros c 0 ∗ zeros c 1) ∗ scratch c ∗ ∃ r, prngReg c r) := by
  show (if (Fin.last cfg0.N).val = 0 then iprop(Xk m c ∗ scratch c ∗ ∃ r, prngReg c r) else iprop(Yk c ∗ (zeros c 0 ∗ zeros c 1) ∗ scratch c ∗ ∃ r, prngReg c r)) = _
  rw [Fin.val_last, if_neg (by rw [show cfg0.N = 1 from N_0]; decide)]

theorem hout (V : Valuation τ sig (Elt F)) : (dat m c).Φ (Fin.last cfg0.N)
    ⊢ (iprop(Pipeline.scopedRest spec0 c ∗ (∃ r, prngReg c r) ∗ StableHlo.held (c.tc : Thread nD τ) ∅ V ∗ Pipeline.ownSems0 osem c ∗ Yk c) : sProp (𝕄 F)) := by
  rw [phi_last, ownSems_eq]
  iintro ⟨Hy, ⟨H0, H1⟩, Hs, Hp⟩
  isplitl [Hs]; · iapply (scratch_out c); iexact Hs
  isplitl [Hp]; · iexact Hp
  isplitr; · unfold StableHlo.held; rw [bigSep_empty]; iempintro
  isplitl [H0 H1]
  · iapply (own_out fun ρ => semVal (cell c ρ) 0)
    isplitl [H0]; · iexact H0
    iexact H1
  iexact Hy

theorem own_facts : Pipeline.OwnSemFacts spec0 osem where
  isScoped := by decide
  inj := osem_inj
  disj := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_above : Above 0 (O₀ c) :=
  (((owedD_above c 0 0).mono (Nat.zero_le _)).add ((owedD_above c 1 0).mono (Nat.zero_le _))).add (Above.tally _ _ (by decide) (by decide)) |>.add (Above.tally _ _ (by decide) (by decide))

theorem cutD (t : Fin (cfg0.N + 1)) (g : GSem nD τ sig) (i : ℕ) (h : 0 < (dat m c).owed t g i) : i ∈ L g ∧ (0 : ℕ) < lv g i := by
  have e : (dat m c).owed t = if t.val = 0 then O₀ c else 0 := rfl
  rw [e] at h
  split at h
  · obtain ⟨hg, h1, h2⟩ := O₀_above c g i h
    exact ⟨by unfold L; rw [if_pos hg]; exact Finset.mem_range.mpr h2, h1⟩
  · exact absurd h (Nat.lt_irrefl 0)

/-- A device's buffers when the region is left: the result window's array at what the run made of it. -/
def V1 : Valuation τ sig (Elt F) := Function.update (V0 m c) (Proc.devRef .tc main_v6) ((dat m c).arrAt 3 cfg0.N)
abbrev V2 : Valuation τ sig (Elt F) := StableHlo.after hostOps1 (V1 m c)

theorem V1_ne (b : Ref sig .tc) (h : b ≠ main_v6) : V1 m c (Proc.devRef .tc b) = V0 m c (Proc.devRef .tc b) :=
  Function.update_of_ne (StableHlo.devRef_ne_of_ne h) _ _

/-- The buffers that no window stages. -/
abbrev Sr : Finset (DevRef τ sig) := Pipeline.ucRefs τ sig \ Pipeline.arrRefs (τ := τ) spec0

theorem arr_mem (w : Fin 4) : Proc.devRef .tc (Pipeline.arrRef spec0 w) ∈ Pipeline.arrRefs (τ := τ) spec0 := by
  unfold Pipeline.arrRefs
  exact Finset.mem_map_of_mem _ (Finset.mem_image_of_mem _ (Finset.mem_univ w))

theorem hrest (b : DevRef τ sig) (hb : b ∈ Sr \ ∅) : V1 m c b = V0 m c b := by
  unfold V1
  refine Function.update_of_ne (fun h => ?_) _ _
  rw [Finset.sdiff_empty, Finset.mem_sdiff] at hb
  exact hb.2 (h ▸ arr_mem 3)

theorem hW' (w : Fin cfg0.W) : (dat m c).arrAt w cfg0.N = V1 m c (Proc.devRef .tc (Pipeline.arrRef spec0 w)) := by
  match w with
  | 0 => exact ((dat m c).arrAt_in 0 rfl _).trans (V1_ne m c main_v1 (by decide)).symm
  | 1 => exact ((dat m c).arrAt_in 1 rfl _).trans (V1_ne m c main_v3 (by decide)).symm
  | 2 => exact ((dat m c).arrAt_in 2 rfl _).trans (V1_ne m c main_v5 (by decide)).symm
  | 3 => exact (Function.update_self (Proc.devRef .tc main_v6) _ (V0 m c)).symm
  | ⟨_ + 4, h⟩ => exact absurd h (Nat.not_lt.2 (Nat.le_add_left _ _))

theorem share_full (w : Fin cfg0.W) : (dat m c).share w = fullShare := by unfold Dat.share; split <;> rfl

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts
    ∅ Sr (Finset.empty_subset _) kitP rfl (fun c => (obligation m c).loose)
    (fun _ => 0) O₀ (fun c => (owed_zero m c).trans (zero_add _).symm) (owed_last m) (fun _ => rfl) (fun c w => share_full m c w)
    (V0 m) (V1 m) (hrest m)
    (Tk m) Yk (Xk m) Yk (hopen m) (hin m) (fun c => hout m c (V1 m c))
    (fun c => by iintro H; imodintro; iexact H)
    (fun _ => 0)
    ⟨fun _ _ _ => Finset.mem_range.mpr (by decide), fun _ _ _ => Nat.le_refl _, fun c t g i h => cutD m c t g i h⟩
    (fun _ => iprop(emp))
    (fun _ _ => rfl) (hW' m)

/-! ## The run -/

/-- What each host segment passes by. -/
def R0 : sProp (𝕄 F) := iprop(Tk m c ∗ (∃ r, prngReg c r) ∗ ∃ W, owes (c : Thread nD τ) (O₀ c) W)
def R1 : sProp (𝕄 F) := iprop(semVal (cell c .bar) 0 ∗ ∃ W, owes (c : Thread nD τ) (0 : CellTallies nD τ sig ℕ) W)

def seg0 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0
    (fun op hop => Pipeline.sub_ucRefs op ((List.forall_iff_forall_mem.mp hostOps0_sub) op hop))
    (List.forall_iff_forall_mem.mp (by simp only [List.Forall]; repeat' constructor)) (fun c b => m (c, b)) (R0 m)
def seg1 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1
    (fun op hop => Pipeline.sub_ucRefs op ((List.forall_iff_forall_mem.mp hostOps1_sub) op hop))
    (List.forall_iff_forall_mem.mp (by simp only [List.Forall]; repeat' constructor)) (V1 m) R1

theorem reg0_pre : iprop(StableHlo.held (c : Thread nD τ) (Pipeline.ucRefs τ sig) (V0 m c) ∗ R0 m c) ⊢ ((reg0 m).pre c : sProp (𝕄 F)) := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + O₀ c) Wd)
  rw [zero_add, StableHlo.held_sub_split (c.tc : Thread nD τ) (Pipeline.arrRefs_sub_ucRefs spec0 winFacts0.arr_unscoped) (V0 m c)]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post : ((reg0 m).post c : sProp (𝕄 F)) ⊢ iprop(StableHlo.held (c : Thread nD τ) (Pipeline.ucRefs τ sig) (V1 m c) ∗ R1 c) := by
  show iprop(StableHlo.held (c.tc : Thread nD τ) (Pipeline.arrRefs (τ := τ) spec0) (V1 m c) ∗ (∃ r, prngReg c r)
    ∗ (StableHlo.held (c.tc : Thread nD τ) Sr (V1 m c) ∗ emp) ∗ Yk c ∗ ∃ Wd, owes (c : Thread nD τ) (0 : CellTallies nD τ sig ℕ) Wd) ⊢ _
  rw [StableHlo.held_sub_split (c.tc : Thread nD τ) (Pipeline.arrRefs_sub_ucRefs spec0 winFacts0.arr_unscoped) (V1 m c)]
  unfold R1 Yk
  iintro ⟨Ha, -, ⟨Hr, -⟩, Hy, HO⟩
  isplitl [Ha Hr]
  · isplitl [Ha] <;> iassumption
  isplitl [Hy] <;> iassumption

def segs : List (Pipeline.Seg (pcfgs (F := F)) adm (pdats m) 0 defs₀ 𝒱₀ L lv) := [.host (seg0 m), .region (reg0 m), .host (seg1 m)]

theorem main_eq : main (F := F) c = Pipeline.Seg.run (segs m) :=
  main_segs adm (pdats m) 0 𝒱₀ L lv (seg0 m) (seg1 m) (reg0 m) rfl rfl c

/-- The launch element, parked on device 0 until it is dealt. -/
def launchEl : UU := (initOf (Pipeline.cells (Pipeline.pin (pcfgs (F := F)) adm) cellOf_inj) (Pipeline.launchToks (Pipeline.pin (pcfgs (F := F)) adm) cellOf_inj),
  launchOf fam.S fam.Sd fam.T)
def parked (X : sProp (𝕄 F)) (c : Dev nD) : sProp (𝕄 F) := if c = 0 then X else iprop(emp)
theorem parked_all (X : sProp (𝕄 F)) : bigSep Finset.univ (parked X) = X := by
  rw [bigSep_univ_at _ (0 : Dev nD), bigSep_congr (s := Finset.univ.erase (0 : Dev nD)) (Ψ := fun _ => (BI.emp : sProp (𝕄 F)))
      fun c hc => by unfold parked; rw [if_neg (Finset.ne_of_mem_erase hc)]; rfl, BI.bigSep_emp_const]
  unfold parked; rw [if_pos rfl]
  exact BI.equiv_iff.mp sep_emp
def G : Dev nD → sProp (𝕄 F) := parked (BI.own (ER (launchOf fam.S fam.Sd fam.T)))

theorem sems_held : (unscopedSems0 c : sProp (𝕄 F)) = semVal (cell c .bar) 0 := by
  unfold unscopedSems0
  rw [show (Finset.univ.filter fun sm : SemLoc sig => ¬ sm.isScoped .tc) = {loc .bar} from by decide, bigSep_singleton]
  rfl

abbrev T₀ : sProp (𝕄 F) := iprop(StableHlo.held (c : Thread nD τ) (Pipeline.ucRefs τ sig) (fun b => m (c, b)) ∗ R0 m c)
abbrev Tₙ : sProp (𝕄 F) := iprop(StableHlo.held (c : Thread nD τ) (Pipeline.ucRefs τ sig) (V2 m c) ∗ semVal (cell c .bar) 0)

/-- What of a core's launch holdings is not the protocol's. -/
def bundle : sProp (𝕄 F) :=
  iprop(StableHlo.held (c : Thread nD τ) (Pipeline.ucRefs τ sig) (fun b => m (c, b)) ∗ owes (c : Thread nD τ) (O₀ c) ∅ ∗ Pipeline.launchCred O₀ c ∗ ∃ r, prngReg c r)

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp (𝕄 F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ ((semVal (cell c .bar) 0 ∗ Pipeline.launchCred (fun _ => 0) c) ∗ G c)) : sProp (𝕄 F)) := by
    rw [show unscopedBufs c (fun b => m ((c : Thread nD τ).loc b)) = StableHlo.held (c : Thread nD τ) (Pipeline.ucRefs τ sig) (fun b => m (c, b)) from
        Pipeline.unscopedBufs_held (Ix := ℕ) (Name := ℕ) (U := UU) (Lvl := ℕ) c (fun b => m (c, b)),
      sems_held, Pipeline.launchCred_zero c]
    unfold bundle
    iintro ⟨Hh, Hus, HO, Hcr, Hp, HG⟩
    isplitl [Hh HO Hcr Hp]
    · isplitl [Hh]; · iexact Hh
      isplitl [HO]; · iexact HO
      isplitl [Hcr]; · iexact Hcr
      iexists (ρ c); iexact Hp
    isplitr [HG]
    · isplitl [Hus]; · iexact Hus
      iempintro
    iexact HG
  have hT (c : Dev nD) : iprop(fam.launched ER (Rd (xv m)) (fun _ => Finset.univ) c ∗ bundle m c) ⊢ (T₀ m c : sProp (𝕄 F)) := by
    unfold bundle T₀ R0 Tk
    iintro ⟨Hl, Hh, HO, Hcr, Hp⟩
    isplitl [Hh]; · iexact Hh
    isplitl [Hl Hcr]
    · isplitl [Hl] <;> iassumption
    isplitl [Hp]; · iexact Hp
    iexists ∅; iexact HO
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ ((semVal (cell c .bar) 0 ∗ Pipeline.launchCred (fun _ => 0) c) ∗ G c)) : sProp (𝕄 F)) from
    bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (G (F := F)) ⊢ BI.own (ER (launchOf fam.S fam.Sd fam.T)) from
    Entails.of_eq (parked_all (F := F) (BI.own (ER (launchOf fam.S fam.Sd fam.T))))) $$ HG
  imod (TalkSites.Fam.funds (F := fam) ER (Rd (xv m)) (fun _ _ h => h) (fun _ => Finset.univ)) $$ [Hv Hu] with Hl
  · isplitl [Hv]; · iexact Hv
    iexact Hu
  imodintro
  ihave H5 := (Entails.of_eq (bigSep_sep' ..).symm) $$ [Hl HB]
  · isplitl [Hl]; · iexact Hl
    iexact HB
  iapply (show (bigSep Finset.univ fun c : Dev nD => iprop(fam.launched ER (Rd (xv m)) (fun _ => Finset.univ) c ∗ bundle m c)) ⊢ bigSep Finset.univ (T₀ m) from
    bigSep_mono fun c _ => hT c)
  iexact H5

theorem unscoped_eq : ∀ sm : SemLoc sig, sm.isScoped .tc = false → sm = loc .bar := by decide

theorem L_of_ne : ∀ g : GSem nD τ sig, g.1.2 ≠ .tc → L g = ∅ := fun _ h => if_neg h

set_option backward.isDefEq.respectTransparency.types false in
/-- The run of the whole program: every buffer of the host's ends at the final valuation, every semaphore at zero. -/
theorem run_main : θ_run defs (onTc (τ := τ) (main (F := F))) (s₀ m ρ)
    (fun r => (∀ c : Dev nD, ∀ b ∈ Pipeline.ucRefs τ sig, r.2.mem (c, b) = V2 m c b) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := launchEl)
    (hu₀ := by
      unfold launchEl G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (V2 m c) ∗ R1 c)
        ⊢ iprop(Tₙ m c ∗ ∃ W, owes (c : Thread nD τ) (0 : CellTallies nD τ sig ℕ) W)
      unfold R1
      iintro ⟨Hh, Hb0, HO⟩
      isplitr [HO]
      · isplitl [Hh] <;> iassumption
      · iexact HO)
    (hinit := init m ρ)
    (QY := fun c s => (∀ b ∈ Pipeline.ucRefs τ sig, s.mem (c, b) = V2 m c b) ∧ s.sem (cell c .bar) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c.tc : Thread nD τ).1, b)) (V2 m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => (h c).1, sem_eq_zero hs fun c sm hsm => by
        obtain rfl := unscoped_eq sm hsm
        exact (h c).2⟩)

end Ring
-- ==== Proof.Frames.lean ====
/-
  The frames: the arguments end as they began and every semaphore ends at zero.
-/
module

public import proofs.«01_k».proof.Proof.Launch
public import Idealize.ShloMosaic.Lib.Pipeline.FrameTail

@[expose] public section

noncomputable section

namespace Ring

open Idealize.ShloMosaic Idealize.ShloMosaic.TcCoe
open Idealize.SL.Sem
open Cert.KernelIdeal Cert.KernelIdeal.Gen

variable {F : FTy → Type} [FloatOps F] (m : (ℓ : Loc nD τ sig) → Buf (Elt F) ℓ) (ρ : Dev nD → PrngReg) (c : Dev nD)

/-- A buffer that no host operation writes, and that is not the result window's, ends as it began. -/
theorem V2_of (b : Ref sig .tc) (h0 : ∀ op ∈ (hostOps0 (F := F)), Proc.devRef .tc b ∉ op.writes) (h1 : ∀ op ∈ (hostOps1 (F := F)), Proc.devRef .tc b ∉ op.writes)
    (h6 : b ≠ main_v6) : V2 m c (Proc.devRef .tc b) = m (c, Proc.devRef .tc b) := by
  unfold V2
  rw [StableHlo.after_of_forall_not_mem (b := Proc.devRef .tc b) _ _ h1, V1_ne m c b h6]
  exact StableHlo.after_of_forall_not_mem (b := Proc.devRef .tc b) _ _ h0

theorem V2_arg0 : V2 m c (Proc.devRef .tc main_arg0) = m (c, Proc.devRef .tc main_arg0) :=
  V2_of m c main_arg0
    (List.forall_iff_forall_mem.mp (by
      simp only [List.Forall, StableHlo.unary_writes, Finset.mem_singleton]
      repeat' apply And.intro
      all_goals exact StableHlo.devRef_ne_of_ne (by decide)))
    (List.forall_iff_forall_mem.mp (by
      simp only [List.Forall, StableHlo.unary_writes, Finset.mem_singleton]
      exact StableHlo.devRef_ne_of_ne (by decide))) (by decide)
theorem V2_arg1 : V2 m c (Proc.devRef .tc main_arg1) = m (c, Proc.devRef .tc main_arg1) :=
  V2_of m c main_arg1
    (List.forall_iff_forall_mem.mp (by
      simp only [List.Forall, StableHlo.unary_writes, Finset.mem_singleton]
      repeat' apply And.intro
      all_goals exact StableHlo.devRef_ne_of_ne (by decide)))
    (List.forall_iff_forall_mem.mp (by
      simp only [List.Forall, StableHlo.unary_writes, Finset.mem_singleton]
      exact StableHlo.devRef_ne_of_ne (by decide))) (by decide)
theorem V2_arg2 : V2 m c (Proc.devRef .tc main_arg2) = m (c, Proc.devRef .tc main_arg2) :=
  V2_of m c main_arg2
    (List.forall_iff_forall_mem.mp (by
      simp only [List.Forall, StableHlo.unary_writes, Finset.mem_singleton]
      repeat' apply And.intro
      all_goals exact StableHlo.devRef_ne_of_ne (by decide)))
    (List.forall_iff_forall_mem.mp (by
      simp only [List.Forall, StableHlo.unary_writes, Finset.mem_singleton]
      exact StableHlo.devRef_ne_of_ne (by decide))) (by decide)

/-- The run, read at the arguments, the result and the semaphores. -/
theorem run_read : θ_run defs (onTc (τ := τ) (main (F := F))) (s₀ m ρ)
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v7) = V2 m c (Proc.devRef .tc main_v7))
      ∧ r.2.sem = fun _ => 0) :=
  (θ_run defs _ _).mono (fun _ h => ⟨fun c => ⟨⟨(h.1 c _ (Pipeline.devRef_mem_ucRefs rfl)).trans (V2_arg0 m c), (h.1 c _ (Pipeline.devRef_mem_ucRefs rfl)).trans (V2_arg1 m c),
    (h.1 c _ (Pipeline.devRef_mem_ucRefs rfl)).trans (V2_arg2 m c)⟩, h.1 c _ (Pipeline.devRef_mem_ucRefs rfl)⟩, h.2⟩) (run_main m ρ)

end Ring
-- ==== Proof.Entry.lean ====
/-
  The accumulators' entries at the ideal values.
-/
module

public import proofs.«01_k».proof.Proof.Start
public import Idealize.ShloMosaic.Lib.Pointwise

@[expose] public section

noncomputable section

namespace Ring

open Idealize.ShloMosaic Idealize.ShloMosaic.TcCoe
open Cert.KernelIdeal Cert.KernelIdeal.Gen

/-- The scale, an eighth, is a real number. -/
theorem eighth : ∃ c : ℝ, Ideal.ofBits .f32 0x3E000000#32 = (c : EReal) := by
  refine ⟨0.125, ?_⟩
  simp [Ideal.ofBits, Ideal.ieee]
  rw [← EReal.coe_mul]
  norm_num

variable (X : Fin 2 → Dev nD → Vec Ideal S2x8x256x64 .bf16)

/-- Device p's share of row r, lane l: its 256 keys, with the values in the lower lanes and ones in the upper. -/
def share (Q : Vec Ideal S2x8x256x64 .bf16) (xk xv : Vec Ideal S2x8x256x64 .bf16) (b : Fin 2) (h : Fin 8) (r : Fin 256)
    (l : Fin 128) : EReal :=
  ∑ x : Fin 256, Ideal.exp (∑ e : Fin 64, Q (ix4 b h r e) * xk (ix4 b h x e))
    * if hl : l.val < 64 then xv (ix4 b h x ⟨l.val, hl⟩) else 1

theorem pay2_entry (ones : FVec Ideal S256x64 .bf16) (q : Vec Ideal S1x1x256x64 .bf16) (xk xv : Vec Ideal S1x1x1x256x64 .bf16)
    (A : Vec Ideal S1x1x256x128 .f32) (r : Fin 256) (l : Fin 128) : k0_pay2 ones q xk xv A (ix4 0 0 r l)
      = A (ix4 0 0 r l) + ∑ x : Fin 256, Ideal.exp (∑ e : Fin 64, q (ix4 0 0 r e) * xk (ix5 0 0 0 x e))
        * if hl : l.val < 64 then xv (ix5 0 0 0 x ⟨l.val, hl⟩) else ones (ix2 x ⟨l.val - 64, by omega⟩) := by
  pointwise [k0_pay2]

theorem pay103_entry (A : Vec Ideal S1x1x256x128 .f32) (r : Fin 256) (l : Fin 64) : k0_pay103 A (ix4 0 0 r l)
    = Ideal.div (A (ix4 0 0 r ⟨l.val, by omega⟩)) (A (ix4 0 0 r ⟨64 + l.val, by omega⟩)) := by
  pointwise [k0_pay103]

theorem pay63_entry (A : Vec Ideal S2x8x256x64 .f32) (j : S2x8x256x64.Idx) :
    k0_pay63 A j = A j * Ideal.ofBits .f32 0x3E000000#32 := by
  pointwise [k0_pay63]
theorem pay62_entry (j : S2x8x256x128.Idx) : k0_pay62 (F := Ideal) j = (0 : EReal) := by
  pointwise [k0_pay62]
theorem pay68_entry (j : S256x64.Idx) : k0_pay68 (F := Ideal) j = (1 : EReal) := by
  pointwise [k0_pay68]

theorem pickQ_entry (x : Vec Ideal S2x8x256x64 .bf16) (b : Fin 2) (h : Fin 8) (r : Fin 256) (e : Fin 64) :
    pickQ x b.val h.val (ix4 0 0 r e) = x (ix4 b h r e) := by
  unfold pickQ
  congr 1
  funext a; fin_cases a <;> apply Fin.ext <;> simp [Rect.unit, Rect.emb, ix4] <;> omega
theorem pickA_entry (x : Vec Ideal S2x8x256x128 .f32) (b : Fin 2) (h : Fin 8) (r : Fin 256) (e : Fin 128) :
    pickA x b.val h.val (ix4 0 0 r e) = x (ix4 b h r e) := by
  unfold pickA
  congr 1
  funext a; fin_cases a <;> apply Fin.ext <;> simp [Rect.unit, Rect.emb, ix4] <;> omega
theorem pickB_entry (x : Vec Ideal S2x8x256x64 .bf16) (b : Fin 2) (h : Fin 8) (r : Fin 256) (e : Fin 64) :
    pickB x b.val h.val (ix5 0 0 0 r e) = x (ix4 b h r e) := by
  unfold pickB
  congr 1
  rw [Equiv.symm_apply_eq]
  pointwise
  funext a; fin_cases a <;> apply Fin.ext <;> simp [Rect.unit, Rect.emb, ix5] <;> omega

theorem headV_entry (Q xk xv : Vec Ideal S2x8x256x64 .bf16) (A : ℕ → ℕ → Vec Ideal S1x1x256x128 .f32) (b : Fin 2) (h : Fin 8)
    (r : Fin 256) (l : Fin 128) : headV k0_pay68 Q xk xv A b.val h.val (ix4 0 0 r l)
      = A b.val h.val (ix4 0 0 r l) + share Q xk xv b h r l := by
  unfold headV
  rw [pay2_entry]
  refine congrArg (A b.val h.val (ix4 0 0 r l) + ·) (Finset.sum_congr rfl fun x _ => congrArg₂ (· * ·)
    (congrArg Ideal.exp (Finset.sum_congr rfl fun e _ => congrArg₂ (· * ·) (pickQ_entry Q b h r e) (pickB_entry xk b h x e))) ?_)
  split
  · exact pickB_entry xv b h x ⟨l.val, _⟩
  · exact pay68_entry _

/-- The sum the accumulator holds after k trips. -/
def run0 (T : Dev nD → EReal) (c : Dev nD) : ℕ → EReal
  | 0 => 0
  | k + 1 => if 1 ≤ k then run0 T c k + T (pvn 0 k c) + T (pvn 1 k c) else run0 T c k + T (pvn 0 k c)

theorem accAt_entry (Q : Vec Ideal S2x8x256x64 .bf16) (c : Dev nD) (b : Fin 2) (h : Fin 8) (r : Fin 256) (l : Fin 128) (k : ℕ) :
    accAt X c k0_pay68 Q k b.val h.val (ix4 0 0 r l) = run0 (fun p => share Q (X 0 p) (X 1 p) b h r l) c k := by
  induction k with
  | zero => unfold accAt run0; rw [pickA_entry, pay62_entry]
  | succ k ih =>
    unfold accAt run0
    split
    · exact (headV_entry _ _ _ _ b h r l).trans (congrArg (· + _) ((headV_entry _ _ _ _ b h r l).trans (congrArg (· + _) ih)))
    · exact (headV_entry _ _ _ _ b h r l).trans (congrArg (· + _) ih)

/-- The devices whose blocks a device meets, in the order it meets them. -/
def met (c : Dev nD) : List (Dev nD) :=
  (List.range 17).map (fun k => pvn 0 k c) ++ (List.range 15).map (fun k => pvn 1 (k + 1) c)
theorem met_nodup (c : Dev nD) : (met c).Nodup := by revert c; decide +kernel

/-- Every device's block is met once. -/
theorem run0_all (T : Dev nD → EReal) (c : Dev nD) : run0 T c 16 + T (pvn 0 16 c) = ∑ p, T p := by
  have e : (met c).toFinset = Finset.univ :=
    Finset.eq_univ_of_card _ ((List.toFinset_card_of_nodup (met_nodup c)).trans (by simp [met]))
  rw [← e, List.sum_toFinset _ (met_nodup c)]
  simp only [met, List.range_succ, List.range_zero, List.map_append, List.map_cons, List.map_nil, List.nil_append, List.sum_append,
    List.sum_cons, List.sum_nil, add_zero, run0]
  simp (config := { decide := true }) only [if_true, if_false, zero_add]
  ac_rfl

theorem accEnd_entry (c : Dev nD) (Qv : Vec Ideal S2x8x256x64 .f32) (b : Fin 2) (h : Fin 8) (r : Fin 256) (l : Fin 128) :
    accEnd X c Qv b.val h.val (ix4 0 0 r l) = ∑ p, share (k0_pay63 Qv) (X 0 p) (X 1 p) b h r l := by
  unfold accEnd
  rw [headV_entry, accAt_entry]
  exact run0_all (fun p => share (k0_pay63 Qv) (X 0 p) (X 1 p) b h r l) c

/-- The kernel's result at an index: the sum over every device's keys, divided by the sum of the exponentials. -/
theorem res_entry (c : Dev nD) (Qv : Vec Ideal S2x8x256x64 .f32) (b : Fin 2) (h : Fin 8) (r : Fin 256) (l : Fin 64) :
    res X c Qv (ix4 b h r l)
      = Ideal.div (∑ p, ∑ x : Fin 256, Ideal.exp (∑ e : Fin 64, Qv (ix4 b h r e) * Ideal.ofBits .f32 0x3E000000#32 * X 0 p (ix4 b h x e))
            * X 1 p (ix4 b h x l))
          (∑ p, ∑ x : Fin 256, Ideal.exp (∑ e : Fin 64, Qv (ix4 b h r e) * Ideal.ofBits .f32 0x3E000000#32 * X 0 p (ix4 b h x e))
            * 1) := by
  have e : res X c Qv (ix4 b h r l) = k0_pay103 (accEnd X c Qv b.val h.val) (ix4 0 0 r l) := by
    unfold res fin
    congr 1
    funext a; fin_cases a <;> rfl
  rw [e, pay103_entry, accEnd_entry, accEnd_entry]
  unfold share
  simp only [pay63_entry]
  have h₁ : ¬ 64 + l.val < 64 := by omega
  simp only [l.isLt, h₁, dif_pos, dif_neg, not_false_eq_true, dite_true, dite_false]

end Ring
-- ==== Proof.Value.lean ====
/-
  The kernel's result as a function of the arguments: each device's queries against every device's keys and values.
-/
module

public import proofs.«01_k».proof.Proof.Frames
public import proofs.«01_k».proof.Proof.Entry

@[expose] public section

noncomputable section

namespace Ring

open Idealize.ShloMosaic Idealize.ShloMosaic.TcCoe
open Cert.KernelIdeal Cert.KernelIdeal.Gen

variable (m : (ℓ : Loc nD τ sig) → Buf (Elt Ideal) ℓ) (c : Dev nD)

/-- The arguments as device c holds them. -/
abbrev argQ : FVec Ideal S2x256x8x64 .f32 := m (c, Proc.devRef .tc main_arg0)
abbrev argK : FVec Ideal S2x256x8x64 .f32 := m (c, Proc.devRef .tc main_arg1)
abbrev argV : FVec Ideal S2x256x8x64 .f32 := m (c, Proc.devRef .tc main_arg2)

theorem V0_q : V0 m c (Proc.devRef .tc main_v1)
    = transpose S2x8x256x64 [0, 2, 1, 3] (argQ m c) Facts₀.transposes_S2x256x8x64_S2x8x256x64_0_2_1_3 := by
  unfold V0
  after_results
theorem V0_k : V0 m c (Proc.devRef .tc main_v3)
    = truncf .bf16 (transpose S2x8x256x64 [0, 2, 1, 3] (argK m c) Facts₀.transposes_S2x256x8x64_S2x8x256x64_0_2_1_3) bitsLt_bf16_f32 := by
  unfold V0
  after_results
theorem V0_v : V0 m c (Proc.devRef .tc main_v5)
    = truncf .bf16 (transpose S2x8x256x64 [0, 2, 1, 3] (argV m c) Facts₀.transposes_S2x256x8x64_S2x8x256x64_0_2_1_3) bitsLt_bf16_f32 := by
  unfold V0
  after_results

theorem qv_eq : qv m c = V0 m c (Proc.devRef .tc main_v1) := by
  funext j
  show V0 m c (Proc.devRef .tc main_v1) (((cfg0.win 0).rect t0_0).emb j) = _
  congr 1
  funext a
  exact Fin.ext (Pipeline.Window.rect_emb_val_of_index_zero _ _ a (by revert a; decide +kernel) j)
theorem xk_eq : xv m 0 c = V0 m c (Proc.devRef .tc main_v3) := by
  funext j
  show V0 m c (Proc.devRef .tc main_v3) (((cfg0.win 1).rect t0_0).emb j) = _
  congr 1
  funext a
  exact Fin.ext (Pipeline.Window.rect_emb_val_of_index_zero _ _ a (by revert a; decide +kernel) j)
theorem xv_eq : xv m 1 c = V0 m c (Proc.devRef .tc main_v5) := by
  funext j
  show V0 m c (Proc.devRef .tc main_v5) (((cfg0.win 2).rect t0_0).emb j) = _
  congr 1
  funext a
  exact Fin.ext (Pipeline.Window.rect_emb_val_of_index_zero _ _ a (by revert a; decide +kernel) j)

variable (b : Fin 2) (h : Fin 8) (r : Fin 256)

theorem qv_entry (e : Fin 64) : qv m c (ix4 b h r e) = argQ m c (ix4 b r h e) := by
  rw [qv_eq, V0_q]
  pointwise
theorem xk_entry (e : Fin 64) : xv m 0 c (ix4 b h r e) = argK m c (ix4 b r h e) := by
  rw [xk_eq, V0_k]
  pointwise
theorem xv_entry (e : Fin 64) : xv m 1 c (ix4 b h r e) = argV m c (ix4 b r h e) := by
  rw [xv_eq, V0_v]
  pointwise

theorem V1_out : V1 m c (Proc.devRef .tc main_v6) = res (xv m) c (qv m c) := by
  unfold V1
  rw [Function.update_self]
  exact (dat m c).arrAt_eq_of_after_last 3 t0_0 (by decide +kernel) _ fun j => rfl

theorem V2_out : V2 m c (Proc.devRef .tc main_v7)
    = transpose S2x256x8x64 [0, 2, 1, 3] (res (xv m) c (qv m c)) Facts₀.transposes_S2x8x256x64_S2x256x8x64_0_2_1_3 := by
  unfold V2
  rw [StableHlo.after_cons, StableHlo.after_nil, StableHlo.unary_result, V1_out]

/-- The kernel's result at an index. -/
theorem out_entry (l : Fin 64) : V2 m c (Proc.devRef .tc main_v7) (ix4 b r h l)
      = Ideal.div (∑ p : Dev nD, ∑ x : Fin 256, Ideal.exp (∑ e : Fin 64, argQ m c (ix4 b r h e) * Ideal.ofBits .f32 0x3E000000#32 * argK m p (ix4 b x h e))
            * argV m p (ix4 b x h l))
          (∑ p : Dev nD, ∑ x : Fin 256, Ideal.exp (∑ e : Fin 64, argQ m c (ix4 b r h e) * Ideal.ofBits .f32 0x3E000000#32 * argK m p (ix4 b x h e))
            * 1) := by
  have e : V2 m c (Proc.devRef .tc main_v7) (ix4 b r h l) = res (xv m) c (qv m c) (ix4 b h r l) := by
    rw [V2_out]
    generalize res (xv m) c (qv m c) = R
    pointwise
  rw [e, res_entry]
  simp only [qv_entry, xk_entry, xv_entry]

end Ring
-- ==== Proof.Soft.lean ====
/-
  The softmax identity on the extended reals: with real scores, dividing the weighted sum once by the sum of the
  exponentials is summing the values each weighted by its shifted and normalised exponential. The values may be infinite.
-/
module

public import Idealize.ShloMosaic.Lib.Pointwise

@[expose] public section

noncomputable section

namespace Ring

open Idealize.ShloMosaic

variable {ι : Type} [Fintype ι]

theorem coe_sum (f : ι → ℝ) : ((∑ x, f x : ℝ) : EReal) = ∑ x, (f x : EReal) := by
  classical
  induction (Finset.univ : Finset ι) using Finset.induction_on with
  | empty => simp
  | insert a s ha ih => rw [Finset.sum_insert ha, Finset.sum_insert ha, EReal.coe_add, ih]

/-- A nonnegative real factor moves into a sum of extended reals. -/
theorem sum_mul_coe (f : ι → EReal) {c : ℝ} (hc : 0 ≤ c) : (∑ x, f x) * (c : EReal) = ∑ x, f x * (c : EReal) := by
  classical
  induction (Finset.univ : Finset ι) using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The largest of a nonempty family of reals is one of them. -/
theorem max_real [Nonempty ι] (s : ι → ℝ) :
    ∃ μ : ℝ, Finset.univ.fold max (Ideal.ofBits .f32 0xFF800000#32) (fun x => (s x : EReal)) = (μ : EReal) := by
  classical
  have hb : Ideal.ofBits .f32 0xFF800000#32 = (⊥ : EReal) := by simp [Ideal.ofBits, Ideal.ieee]
  have key : ∀ t : Finset ι, t.Nonempty → ∃ μ : ℝ, t.fold max (⊥ : EReal) (fun x => (s x : EReal)) = (μ : EReal) := by
    intro t ht
    induction ht using Finset.Nonempty.cons_induction with
    | singleton a => exact ⟨s a, by simp⟩
    | cons a t ha ht ih =>
      obtain ⟨μ, h⟩ := ih
      exact ⟨max (s a) μ, by rw [Finset.fold_cons, h, EReal.coe_strictMono.monotone.map_max]⟩
  rw [hb]
  exact key _ Finset.univ_nonempty

/-- Softmax without the shift, divided once, is softmax with the shift, divided term by term. -/
theorem soft [Nonempty ι] (s : ι → ℝ) (v : ι → EReal) {M : EReal}
    (hM : M = Finset.univ.fold max (Ideal.ofBits .f32 0xFF800000#32) (fun x => (s x : EReal))) :
    Ideal.div (∑ x, Ideal.exp (s x : EReal) * v x) (∑ x, Ideal.exp (s x : EReal) * 1)
      = ∑ x, v x * Ideal.div (Ideal.exp ((s x : EReal) - M)) (∑ y, Ideal.exp ((s y : EReal) - M)) := by
  obtain ⟨μ, hμ⟩ := max_real s
  rw [hμ] at hM
  subst hM
  have pos : ∀ f : ι → ℝ, 0 < ∑ x, Real.exp (f x) := fun f =>
    Finset.sum_pos (fun x _ => Real.exp_pos _) Finset.univ_nonempty
  have e₁ : (∑ x, Ideal.exp (s x : EReal) * 1) = ((∑ x, Real.exp (s x) : ℝ) : EReal) := by
    rw [coe_sum]; exact Finset.sum_congr rfl fun x _ => by rw [mul_one, Ideal.exp_coe]
  have e₂ : (∑ y, Ideal.exp ((s y : EReal) - (μ : EReal))) = ((∑ y, Real.exp (s y - μ) : ℝ) : EReal) := by
    rw [coe_sum]; exact Finset.sum_congr rfl fun x _ => by rw [← EReal.coe_sub, Ideal.exp_coe]
  have e₃ : (∑ y, Real.exp (s y - μ)) = (∑ y, Real.exp (s y)) * Real.exp (-μ) := by
    rw [Finset.sum_mul]; exact Finset.sum_congr rfl fun x _ => by rw [sub_eq_add_neg, Real.exp_add]
  rw [e₁, e₂, Ideal.div_coe (pos _).ne', sum_mul_coe _ (one_div_pos.2 (pos _)).le]
  refine Finset.sum_congr rfl fun x _ => ?_
  rw [Ideal.div_coe (pos _).ne', ← EReal.coe_sub, Ideal.exp_coe, Ideal.exp_coe, mul_comm _ (v x), mul_assoc,
    ← EReal.coe_mul, ← EReal.coe_mul]
  congr 2
  rw [e₃, sub_eq_add_neg, Real.exp_add]
  have h₁ := (pos s).ne'
  have h₂ := (Real.exp_pos (-μ)).ne'
  field_simp

/-- The scale on the query moves out of a score of reals. -/
theorem score (q k : ι → ℝ) (c : ℝ) :
    (∑ x, ((q x : EReal) * (c : EReal)) * (k x : EReal)) = (((∑ x, q x * k x) * c : ℝ) : EReal)
      ∧ (∑ x, (q x : EReal) * (k x : EReal)) * (c : EReal) = (((∑ x, q x * k x) * c : ℝ) : EReal) := by
  constructor
  · rw [Finset.sum_mul, coe_sum]
    refine Finset.sum_congr rfl fun x _ => ?_
    rw [← EReal.coe_mul, ← EReal.coe_mul]
    congr 1; ring
  · rw [EReal.coe_mul, coe_sum]
    simp only [EReal.coe_mul]

end Ring
-- ==== Proof.RefEntry.lean ====
/-
  The reference's result at an index, and what the precondition says.
-/
module

public import proofs.«01_k».proof.Proof.Gen.ReferenceIdeal.Run
public import proofs.«01_k».proof.Pre_finite_scores_KernelIdeal
public import proofs.«01_k».proof.Proof.Soft
public import Idealize.ShloMosaic.Lib.ReduceAll

@[expose] public section

noncomputable section

namespace Ring

open Idealize.ShloMosaic Idealize.ShloMosaic.TcCoe
open Cert.ReferenceIdeal Cert.ReferenceIdeal.Gen

variable (Q K V : FVec Ideal S2x8192x8x64 .f32)

/-- The scores. -/
def scores : FVec Ideal S2x8x8192x8192 .f32 :=
  mulf (Host.dotGeneral dot_S2x8192x8x64_S2x8192x8x64_S2x8x8192x8192_3_3_1_1_02_02 none Q K)
    (broadcastInDim S2x8x8192x8192 ![] bcast_S_S2x8x8192x8192 (constant S_ .f32 0x3E000000#32))
/-- Each row's largest score. -/
def largest (s : FVec Ideal S2x8x8192x8192 .f32) : FVec Ideal S2x8x8192 .f32 :=
  Host.reduce FloatOps.maximumf s (constant S_ .f32 0xFF800000#32) reducesTo_S2x8x8192x8192_S2x8x8192_d3 h_S_
/-- The exponentials of the scores less the row's largest. -/
def weights (s : FVec Ideal S2x8x8192x8192 .f32) : FVec Ideal S2x8x8192x8192 .f32 :=
  Host.exp (subf s (broadcastInDim S2x8x8192x8192 ![0, 1, 2, 3] bcast_S2x8x8192x1_S2x8x8192x8192_0_1_2_3
    (broadcastInDim S2x8x8192x1 ![0, 1, 2] bcast_S2x8x8192_S2x8x8192x1_0_1_2 (largest s))))
/-- Each row divided by its sum. -/
def shares (w : FVec Ideal S2x8x8192x8192 .f32) : FVec Ideal S2x8x8192x8192 .f32 :=
  Host.divf w (broadcastInDim S2x8x8192x8192 ![0, 1, 2, 3] bcast_S2x8x8192x1_S2x8x8192x8192_0_1_2_3
    (broadcastInDim S2x8x8192x1 ![0, 1, 2] bcast_S2x8x8192_S2x8x8192x1_0_1_2
      (Host.reduceAdd w (constant S_ .f32 0x00000000#32) reducesTo_S2x8x8192x8192_S2x8x8192_d3 h_S_)))
/-- The values, averaged by the shares. -/
def average (p : FVec Ideal S2x8x8192x8192 .f32) : FVec Ideal S2x8192x8x64 .f32 :=
  transpose S2x8192x8x64 [0, 3, 1, 2] (Host.dotGeneral dot_S2x8192x8x64_S2x8x8192x8192_S2x8x64x8192_1_3_3_2_02_01 none V p : FVec Ideal S2x8x64x8192 .f32)
    transposes_S2x8x64x8192_S2x8192x8x64_0_3_1_2

variable (b : Fin 2) (h : Fin 8) (i j : Fin 8192)

theorem scores_entry : scores Q K (ix4 b h i j) = (∑ e : Fin 64, Q (ix4 b i h e) * K (ix4 b j h e)) * Ideal.ofBits .f32 0x3E000000#32 := by
  pointwise [scores]
theorem largest_entry (s : FVec Ideal S2x8x8192x8192 .f32) :
    largest s (ix3 b h i) = Finset.univ.fold max (Ideal.ofBits .f32 0xFF800000#32) (fun x : Fin 8192 => s (ix4 b h i x)) := by
  pointwise [largest]
theorem weights_entry (s : FVec Ideal S2x8x8192x8192 .f32) :
    weights s (ix4 b h i j) = Ideal.exp (s (ix4 b h i j) - largest s (ix3 b h i)) := by
  pointwise [weights]
theorem shares_entry (w : FVec Ideal S2x8x8192x8192 .f32) :
    shares w (ix4 b h i j) = Ideal.div (w (ix4 b h i j)) (∑ x : Fin 8192, w (ix4 b h i x)) := by
  pointwise [shares]
theorem average_entry (p : FVec Ideal S2x8x8192x8192 .f32) (l : Fin 64) :
    average V p (ix4 b i h l) = ∑ x : Fin 8192, V (ix4 b x h l) * p (ix4 b h i x) := by
  pointwise [average]

/-- The reference's result. -/
def attention : FVec Ideal S2x8192x8x64 .f32 := average V (shares (weights (scores Q K)))

/-- With finite queries and keys the reference's result is the weighted sum, divided once by the sum of the exponentials. -/
theorem attention_entry (q k : Fin 2 → Fin 8192 → Fin 8 → Fin 64 → ℝ) (hQ : ∀ b i h e, Q (ix4 b i h e) = (q b i h e : EReal))
    (hK : ∀ b i h e, K (ix4 b i h e) = (k b i h e : EReal)) {s : ℝ} (hs : Ideal.ofBits .f32 0x3E000000#32 = (s : EReal)) (l : Fin 64) :
    attention Q K V (ix4 b i h l)
      = Ideal.div (∑ x : Fin 8192, Ideal.exp (∑ e : Fin 64, Q (ix4 b i h e) * Ideal.ofBits .f32 0x3E000000#32 * K (ix4 b x h e)) * V (ix4 b x h l))
          (∑ x : Fin 8192, Ideal.exp (∑ e : Fin 64, Q (ix4 b i h e) * Ideal.ofBits .f32 0x3E000000#32 * K (ix4 b x h e)) * 1) := by
  have hS : ∀ x, scores Q K (ix4 b h i x) = (((∑ e, q b i h e * k b x h e) * s : ℝ) : EReal) := fun x => by
    rw [scores_entry, hs]
    simp only [hQ, hK]
    exact (score (q b i h) (k b x h) s).2
  have hT : ∀ x, (∑ e : Fin 64, Q (ix4 b i h e) * Ideal.ofBits .f32 0x3E000000#32 * K (ix4 b x h e)) = (((∑ e, q b i h e * k b x h e) * s : ℝ) : EReal) := fun x => by
    rw [hs]
    simp only [hQ, hK]
    exact (score (q b i h) (k b x h) s).1
  simp only [hT]
  rw [soft (fun x => (∑ e, q b i h e * k b x h e) * s) (fun x => V (ix4 b x h l)) rfl]
  unfold attention
  rw [average_entry]
  simp only [shares_entry, weights_entry, largest_entry, hS]

/-- A finite element is a real number. -/
theorem real_of_lt {x : EReal} (hx : Ideal.cmp .olt (max x (-x)) (Ideal.ofBits .f32 0x7F800000#32) = 1#1) : ∃ a : ℝ, x = (a : EReal) := by
  have ht : Ideal.ofBits .f32 0x7F800000#32 = (⊤ : EReal) := by simp [Ideal.ofBits, Ideal.ieee]
  rw [ht] at hx
  induction x using EReal.rec with
  | bot => simp [Ideal.cmp] at hx
  | top => simp [Ideal.cmp] at hx
  | coe a => exact ⟨a, rfl⟩

open Cert.Pre_finite_scores_KernelIdeal in
/-- What the precondition says of one device's queries and keys. -/
theorem real_of_pre [self : Cert.Pre_finite_scores_KernelIdeal.Facts] (Q K V : FVec Ideal S2x256x8x64 .f32) (h : fn Q K V = fun _ => 1#1) :
    (∀ i, ∃ a : ℝ, Q i = (a : EReal)) ∧ ∀ i, ∃ a : ℝ, K i = (a : EReal) := by
  have h0 := congrFun h (fun a => a.elim0)
  dsimp only [fn] at h0
  obtain ⟨h1, h2⟩ := IntOp.andi_eq_one.1 h0
  haveI : Subsingleton Cert.Pre_finite_scores_KernelIdeal.S_.Idx := ⟨fun x y => funext fun a => a.elim0⟩
  exact ⟨fun i => real_of_lt (Host.reduce_andi_all _ _ _ _ _ h1 i), fun i => real_of_lt (Host.reduce_andi_all _ _ _ _ _ h2 i)⟩

end Ring
-- ==== Proof.Equal.lean ====
/-
  The kernel's result is its block of the reference's.
-/
module

public import proofs.«01_k».proof.Proof.Value
public import proofs.«01_k».proof.Proof.RefEntry
public import Idealize.ShloMosaic.Lib.Layout

@[expose] public section

noncomputable section

namespace Ring

open Idealize.ShloMosaic Idealize.ShloMosaic.TcCoe
open Cert.KernelIdeal

/-- Where row r of device p's block is in the whole array. -/
def rowAt (p : Fin 32) (r : Fin 256) : Fin 8192 := ⟨p.val * 256 + r.val, by omega⟩

/-- A sum over the whole array's rows is the sum over the devices of the sums over their rows. -/
theorem sum_rows (f : Fin 8192 → EReal) : ∑ x, f x = ∑ p : Fin 32, ∑ r : Fin 256, f (rowAt p r) := by
  rw [← Fintype.sum_prod_type']
  refine (Fintype.sum_equiv (finProdFinEquiv (m := 32) (n := 256)) _ _ fun y => ?_).symm
  congr 1
  apply Fin.ext
  show y.1.val * 256 + y.2.val = y.2.val + 256 * y.1.val
  omega

theorem block_entry {E : Type} (W : (⟨4, ![2, 8192, 8, 64]⟩ : Shape).Idx → E) (p : Fin 32) (b : Fin 2) (r : Fin 256) (h : Fin 8) (e : Fin 64) :
    Layout.block ⟨4, ![2, 256, 8, 64]⟩ ⟨4, ![2, 8192, 8, 64]⟩ 1 32 p W (by decide) (ix4 b r h e) = W (ix4 b (rowAt p r) h e) := by
  rw [Layout.block_apply]
  congr 1
  funext a
  apply Fin.ext
  rw [Layout.Tiles.idx_val]
  fin_cases a <;> rfl

/-- A row of the whole array is a row of one device's block. -/
theorem rowAt_surj (i : Fin 8192) : ∃ p r, i = rowAt p r :=
  ⟨⟨i.val / 256, by omega⟩, ⟨i.val % 256, by omega⟩, Fin.ext (by show i.val = i.val / 256 * 256 + i.val % 256; omega)⟩

variable (m : (ℓ : Loc nD τ sig) → Buf (Elt Ideal) ℓ)

theorem out_eq (Q K V : FVec Ideal ⟨4, ![2, 8192, 8, 64]⟩ .f32)
    (hq : ∀ c i, ∃ a : ℝ, argQ m c i = (a : EReal)) (hk : ∀ c i, ∃ a : ℝ, argK m c i = (a : EReal))
    (eQ : ∀ c, argQ m c = Layout.block ⟨4, ![2, 256, 8, 64]⟩ ⟨4, ![2, 8192, 8, 64]⟩ 1 32 c Q)
    (eK : ∀ c, argK m c = Layout.block ⟨4, ![2, 256, 8, 64]⟩ ⟨4, ![2, 8192, 8, 64]⟩ 1 32 c K)
    (eV : ∀ c, argV m c = Layout.block ⟨4, ![2, 256, 8, 64]⟩ ⟨4, ![2, 8192, 8, 64]⟩ 1 32 c V) (c : Dev nD) :
    V2 m c (Proc.devRef .tc main_v7) = Layout.block ⟨4, ![2, 256, 8, 64]⟩ ⟨4, ![2, 8192, 8, 64]⟩ 1 32 c (attention Q K V) := by
  have rQ : ∀ b i h e, ∃ a : ℝ, Q (ix4 b i h e) = (a : EReal) := fun b i h e => by
    obtain ⟨p, r, rfl⟩ := rowAt_surj i
    rw [← block_entry Q, ← eQ]
    exact hq p _
  have rK : ∀ b i h e, ∃ a : ℝ, K (ix4 b i h e) = (a : EReal) := fun b i h e => by
    obtain ⟨p, r, rfl⟩ := rowAt_surj i
    rw [← block_entry K, ← eK]
    exact hk p _
  choose q hQ using rQ
  choose k hK using rK
  obtain ⟨s, hs⟩ := eighth
  funext i
  obtain ⟨b, r, h, l, rfl⟩ : ∃ (b : Fin 2) (r : Fin 256) (h : Fin 8) (l : Fin 64), i = ix4 b r h l :=
    ⟨i 0, i 1, i 2, i 3, by funext a; fin_cases a <;> rfl⟩
  rw [block_entry, attention_entry Q K V b h _ q k hQ hK hs l, out_entry, sum_rows, sum_rows]
  simp only [eQ, eK, eV, block_entry]

end Ring
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equal

@[expose] public section

noncomputable section

namespace Cert.Proof

open Idealize.ShloMosaic Idealize.SL.Sem

/-- The two programs' bodies are one text; so are their tables. -/
theorem bodies_eq : Cert.Kernel.defs₀ (F := Bits) = Cert.KernelIdeal.defs₀ (F := Bits) :=
  congrArg Defs.onTc (funext fun l => funext fun x => by
    match l, x with
    | 0, (t, s) => rfl)
theorem defs_eq : Cert.Kernel.defs (F := Bits) = Cert.KernelIdeal.defs (F := Bits) := congrArg (Pipeline.defs _) bodies_eq

open Cert.KernelIdeal in
/-- The kernel's text is the idealized kernel's, so the run over any float values is its run as well. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
    (θ_run Cert.KernelIdeal.defs _ _).mono (fun _ h => ⟨fun c => (h.1 c).1, h.2⟩) (Ring.run_read (F := Bits) m ρ)
  rw [defs_eq]
  exact h

theorem frame_ideal : Cert.quiescent_KernelIdeal := fun m ρ _ =>
  (θ_run Cert.KernelIdeal.defs _ _).mono (fun _ h => ⟨fun c => (h.1 c).1, h.2⟩) (Ring.run_read (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem finite_facts : Cert.Pre_finite_scores_KernelIdeal.Facts := ⟨by decide, by decide, by decide⟩
theorem finite_facts_reference : Cert.Pre_finite_scores_ReferenceIdeal.Facts := ⟨by decide, by decide, by decide⟩

/-- With finite queries and keys every device's result is its block of the reference's. -/
theorem values : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := finite_facts) := fun m g m' g' pre args =>
  ⟨Ring.attention (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).2.trans (Ring.out_eq m _ _ _
        (fun p => (Ring.real_of_pre (self := finite_facts) _ _ _ (pre p)).1) (fun p => (Ring.real_of_pre (self := finite_facts) _ _ _ (pre p)).2)
        (fun p => (args p).1) (fun p => (args p).2.1) (fun p => (args p).2.2) c), (h.1 c).1⟩) (Ring.run_read (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts, finite_facts, finite_facts_reference,
  frame_kernel, frame_ideal, fun m g _ => frame_ideal m g True.intro, frame_reference, fun m g _ => frame_reference m g True.intro, trivial, values⟩

end Cert.Proof

end
